-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x64x256x512 : Shape := ⟨4, ![4, 64, 256, 512]⟩
abbrev S4x1x256x512 : Shape := ⟨4, ![4, 1, 256, 512]⟩
abbrev S4x64x131072 : Shape := ⟨3, ![4, 64, 131072]⟩
abbrev S4x131072 : Shape := ⟨2, ![4, 131072]⟩
abbrev S512 : Shape := ⟨1, ![512]⟩
abbrev S64x512 : Shape := ⟨2, ![64, 512]⟩
abbrev S_ : Shape := ⟨0, ![]⟩
abbrev S1x512 : Shape := ⟨2, ![1, 512]⟩
abbrev S1x64x512 : Shape := ⟨3, ![1, 64, 512]⟩
abbrev S16 : Shape := ⟨1, ![16]⟩

abbrev nBuf : Table → Nat
  | .hbm => 6
  | .local .scVector .vmem => 3
  | _ => 0

abbrev bufTy : (tb : Table) → Fin (nBuf tb) → BufTy
  | .hbm, ⟨0, _⟩ => ⟨S4x64x256x512, .f32⟩
  | .hbm, ⟨1, _⟩ => ⟨S4x1x256x512, .f32⟩
  | .hbm, ⟨2, _⟩ => ⟨S4x64x131072, .f32⟩
  | .hbm, ⟨3, _⟩ => ⟨S4x131072, .f32⟩
  | .hbm, ⟨4, _⟩ => ⟨S4x64x131072, .f32⟩
  | .hbm, ⟨5, _⟩ => ⟨S4x64x256x512, .f32⟩
  | .local .scVector .vmem, ⟨0, _⟩ => ⟨S512, .f32⟩
  | .local .scVector .vmem, ⟨1, _⟩ => ⟨S64x512, .f32⟩
  | .local .scVector .vmem, ⟨2, _⟩ => ⟨S64x512, .f32⟩
  | _, _ => ⟨S4x64x256x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c32_i32 : BitVec 32 := 32#32
  let v2 : BitVec 32 := Scalar.addi c0_i32_0 c32_i32
  let c1_i32 : BitVec 32 := 1#32
  ⟨c0_i32_0, v2, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_2 : BitVec 32 := 32#32
  let v3 : BitVec 32 := Scalar.muli v1 c32_i32_2
  let c0_i32_0 : BitVec 32 := 0#32
  let c1_i32 : BitVec 32 := 1#32
  let arg8 : BitVec 32 := Scf.iv c0_i32_0 c1_i32 k0_t1
  let v4 : BitVec 32 := Scalar.addi v3 arg8
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c256_i32 : BitVec 32 := 256#32
  let c0_i32_5 : BitVec 32 := 0#32
  let v11 : BitVec 1 := Scalar.cmpi .sgt c256_i32 c0_i32_5
  let v12 : BitVec 32 := Scalar.extui v11
  let c0_i32_6 : BitVec 32 := 0#32
  let v13 : BitVec 1 := Scalar.cmpi .slt c256_i32 c0_i32_6
  let v14 : BitVec 32 := Scalar.extui v13
  let v15 : BitVec 32 := Scalar.subi v12 v14
  let v16 : BitVec 1 := Scalar.cmpi .ne v10 v15
  let v17 : BitVec 32 := Scalar.remsi v4 c256_i32
  let c0_i32_7 : BitVec 32 := 0#32
  let v18 : BitVec 1 := Scalar.cmpi .ne v17 c0_i32_7
  let v19 : BitVec 1 := Scalar.andi v16 v18
  let v5 : BitVec 32 := Scalar.divsi v4 c256_i32
  let c1_i32_8 : BitVec 32 := 1#32
  let v20 : BitVec 32 := Scalar.subi v5 c1_i32_8
  let v21 : BitVec 32 := Scalar.select v19 v20 v5
  let c256_i32_9 : BitVec 32 := 256#32
  let c0_i32_10 : BitVec 32 := 0#32
  let v22 : BitVec 1 := Scalar.cmpi .eq c256_i32_9 c0_i32_10
  let c1_i32_11 : BitVec 32 := 1#32
  let v23 : BitVec 32 := Scalar.select v22 c1_i32_11 c256_i32_9
  let v24 : BitVec 32 := Scalar.remsi v4 v23
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let c0_i32_12 : BitVec 32 := 0#32
  let v25 : BitVec 1 := Scalar.cmpi .ne v24 c0_i32_12
  let v29 : BitVec 1 := Scalar.andi v28 v25
  let v30 : BitVec 32 := Scalar.addi v24 v23
  let v31 : BitVec 32 := Scalar.select v29 v30 v24
  let c512_i32 : BitVec 32 := 512#32
  let v32 : BitVec 32 := Scalar.muli v31 c512_i32
  ![v21.toNat, v32.toNat]
def k0_off2 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_2 : BitVec 32 := 32#32
  let v3 : BitVec 32 := Scalar.muli v1 c32_i32_2
  let c0_i32_0 : BitVec 32 := 0#32
  let c1_i32 : BitVec 32 := 1#32
  let arg8 : BitVec 32 := Scf.iv c0_i32_0 c1_i32 k0_t1
  let v4 : BitVec 32 := Scalar.addi v3 arg8
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c256_i32 : BitVec 32 := 256#32
  let c0_i32_5 : BitVec 32 := 0#32
  let v11 : BitVec 1 := Scalar.cmpi .sgt c256_i32 c0_i32_5
  let v12 : BitVec 32 := Scalar.extui v11
  let c0_i32_6 : BitVec 32 := 0#32
  let v13 : BitVec 1 := Scalar.cmpi .slt c256_i32 c0_i32_6
  let v14 : BitVec 32 := Scalar.extui v13
  let v15 : BitVec 32 := Scalar.subi v12 v14
  let v16 : BitVec 1 := Scalar.cmpi .ne v10 v15
  let v17 : BitVec 32 := Scalar.remsi v4 c256_i32
  let c0_i32_7 : BitVec 32 := 0#32
  let v18 : BitVec 1 := Scalar.cmpi .ne v17 c0_i32_7
  let v19 : BitVec 1 := Scalar.andi v16 v18
  let v5 : BitVec 32 := Scalar.divsi v4 c256_i32
  let c1_i32_8 : BitVec 32 := 1#32
  let v20 : BitVec 32 := Scalar.subi v5 c1_i32_8
  let v21 : BitVec 32 := Scalar.select v19 v20 v5
  let c0_i32_22_r1 : BitVec 32 := 0#32
  let c256_i32_9 : BitVec 32 := 256#32
  let c0_i32_10 : BitVec 32 := 0#32
  let v22 : BitVec 1 := Scalar.cmpi .eq c256_i32_9 c0_i32_10
  let c1_i32_11 : BitVec 32 := 1#32
  let v23 : BitVec 32 := Scalar.select v22 c1_i32_11 c256_i32_9
  let v24 : BitVec 32 := Scalar.remsi v4 v23
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let c0_i32_12 : BitVec 32 := 0#32
  let v25 : BitVec 1 := Scalar.cmpi .ne v24 c0_i32_12
  let v29 : BitVec 1 := Scalar.andi v28 v25
  let v30 : BitVec 32 := Scalar.addi v24 v23
  let v31 : BitVec 32 := Scalar.select v29 v30 v24
  let c512_i32_15 : BitVec 32 := 512#32
  let v33 : BitVec 32 := Scalar.muli v31 c512_i32_15
  ![v21.toNat, 0, v33.toNat]
@[reducible] def k0_t2_loop : Scf.Loop 32 :=
  let c0_i32_17 : BitVec 32 := 0#32
  let c32_i32_18 : BitVec 32 := 32#32
  let v34 : BitVec 32 := Scalar.addi c0_i32_17 c32_i32_18
  let c1_i32_19 : BitVec 32 := 1#32
  ⟨c0_i32_17, v34, c1_i32_19⟩
def k0_off3 (k0_t2 : Fin k0_t2_loop.trips) : Fin 1 → Nat :=
  let c0_i32_17 : BitVec 32 := 0#32
  let c1_i32_19 : BitVec 32 := 1#32
  let arg9 : BitVec 32 := Scf.iv c0_i32_17 c1_i32_19 k0_t2
  let c16_i32_22 : BitVec 32 := 16#32
  let v41 : BitVec 32 := Scalar.muli arg9 c16_i32_22
  let v42 : Index := Scalar.indexCast v41
  ![v42.toNat]
@[reducible] def k0_t3_loop : Scf.Loop 32 :=
  let c0_i32_30 : BitVec 32 := 0#32
  let c64_i32 : BitVec 32 := 64#32
  let v72 : BitVec 32 := Scalar.addi c0_i32_30 c64_i32
  let c1_i32_31 : BitVec 32 := 1#32
  ⟨c0_i32_30, v72, c1_i32_31⟩

def k0_chk1 (v39 : IVec S16 32) (v55 : IVec S16 32) (v59 : IVec S16 32) (v73 : IVec S16 32) : Prop :=
  (∀ a x, ((![v73, v55] : Fin 2 → IVec S16 32) a x).toNat < S64x512.size a) ∧
  (∀ a x, ((![v73, v59] : Fin 2 → IVec S16 32) a x).toNat < S64x512.size a) ∧
  (∀ a x, ((![v73, v39] : Fin 2 → IVec S16 32) a x).toNat < S64x512.size a)
theorem k0_idx1_inb : ∀ (v39 : IVec S16 32) (v55 : IVec S16 32) (v59 : IVec S16 32) (v73 : IVec S16 32) (k0_hw1 : k0_chk1 v39 v55 v59 v73), ∀ a x, ((![v73, v55] : Fin 2 → IVec S16 32) a x).toNat < S64x512.size a := fun v39 v55 v59 v73 k0_hw1 => k0_hw1.1
theorem k0_idx2_inb : ∀ (v39 : IVec S16 32) (v55 : IVec S16 32) (v59 : IVec S16 32) (v73 : IVec S16 32) (k0_hw1 : k0_chk1 v39 v55 v59 v73), ∀ a x, ((![v73, v59] : Fin 2 → IVec S16 32) a x).toNat < S64x512.size a := fun v39 v55 v59 v73 k0_hw1 => k0_hw1.2.1
theorem k0_idx3_inb : ∀ (v39 : IVec S16 32) (v55 : IVec S16 32) (v59 : IVec S16 32) (v73 : IVec S16 32) (k0_hw1 : k0_chk1 v39 v55 v59 v73), ∀ a x, ((![v73, v39] : Fin 2 → IVec S16 32) a x).toNat < S64x512.size a := fun v39 v55 v59 v73 k0_hw1 => k0_hw1.2.2
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x64x256x512 : Shape := ⟨4, ![4, 64, 256, 512]⟩
abbrev S4x1x256x512 : Shape := ⟨4, ![4, 1, 256, 512]⟩
abbrev S512 : Shape := ⟨1, ![512]⟩
abbrev S1x1x1x512 : Shape := ⟨4, ![1, 1, 1, 512]⟩
abbrev S1x1x256x512 : Shape := ⟨4, ![1, 1, 256, 512]⟩
abbrev S_ : Shape := ⟨0, ![]⟩
abbrev S4x64x256x512x1 : Shape := ⟨5, ![4, 64, 256, 512, 1]⟩
abbrev S1 : Shape := ⟨1, ![1]⟩
abbrev S1x1x1x1x1 : Shape := ⟨5, ![1, 1, 1, 1, 1]⟩

abbrev nBuf : Space → Nat
  | .hbm => 99
  | .vmem => 0
  | .smem => 0
  | _ => 0

abbrev bufTy : (tb : Table) → Fin (tcTables nBuf tb) → BufTy
  | .hbm, ⟨0, _⟩ => ⟨S4x64x256x512, .f32⟩
  | .hbm, ⟨1, _⟩ => ⟨S4x1x256x512, .f32⟩
  | .hbm, ⟨2, _⟩ => ⟨S512, .f32⟩
  | .hbm, ⟨3, _⟩ => ⟨S1x1x1x512, .f32⟩
  | .hbm, ⟨4, _⟩ => ⟨S1x1x256x512, .f32⟩
  | .hbm, ⟨5, _⟩ => ⟨S4x1x256x512, .f32⟩
  | .hbm, ⟨6, _⟩ => ⟨S4x1x256x512, .f32⟩
  | .hbm, ⟨7, _⟩ => ⟨S4x1x256x512, .f32⟩
  | .hbm, ⟨8, _⟩ => ⟨S_, .f32⟩
  | .hbm, ⟨9, _⟩ => ⟨S4x1x256x512, .f32⟩
  | .hbm, ⟨10, _⟩ => ⟨S4x1x256x512, .f32⟩
  | .hbm, ⟨11, _⟩ => ⟨S4x1x256x512, .f32⟩
  | .hbm, ⟨12, _⟩ => ⟨S4x1x256x512, .f32⟩
  | .hbm, ⟨13, _⟩ => ⟨S4x64x256x512, .f32⟩
  | .hbm, ⟨14, _⟩ => ⟨S4x64x256x512, .f32⟩
  | .hbm, ⟨15, _⟩ => ⟨S4x1x256x512, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S4x1x256x512, .i32⟩
  | .hbm, ⟨20, _⟩ => ⟨S4x1x256x512, .i32⟩
  | .hbm, ⟨21, _⟩ => ⟨S_, .i32⟩
  | .hbm, ⟨22, _⟩ => ⟨S4x1x256x512, .i32⟩
  | .hbm, ⟨23, _⟩ => ⟨S4x1x256x512, .i32⟩
  | .hbm, ⟨24, _⟩ => ⟨S4x1x256x512, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S4x1x256x512, .i32⟩
  | .hbm, ⟨29, _⟩ => ⟨S4x1x256x512, .i32⟩
  | .hbm, ⟨30, _⟩ => ⟨S_, .i32⟩
  | .hbm, ⟨31, _⟩ => ⟨S4x1x256x512, .i32⟩
  | .hbm, ⟨32, _⟩ => ⟨S4x1x256x512, .i32⟩
  | .hbm, ⟨33, _⟩ => ⟨S4x64x256x512, .i32⟩
  | .hbm, ⟨34, _⟩ => ⟨S4x64x256x512, .i32⟩
  | .hbm, ⟨35, _⟩ => ⟨S_, .i32⟩
  | .hbm, ⟨36, _⟩ => ⟨S4x64x256x512, .i32⟩
  | .hbm, ⟨37, _⟩ => ⟨S4x64x256x512, .i1⟩
  | .hbm, ⟨38, _⟩ => ⟨S_, .i32⟩
  | .hbm, ⟨39, _⟩ => ⟨S4x64x256x512, .i32⟩
  | .hbm, ⟨40, _⟩ => ⟨S4x64x256x512, .i32⟩
  | .hbm, ⟨41, _⟩ => ⟨S4x64x256x512, .i32⟩
  | .hbm, ⟨42, _⟩ => ⟨S4x64x256x512x1, .i32⟩
  | .hbm, ⟨43, _⟩ => ⟨S1, .i32⟩
  | .hbm, ⟨44, _⟩ => ⟨S_, .i32⟩
  | .hbm, ⟨45, _⟩ => ⟨S4x64x256x512x1, .i32⟩
  | .hbm, ⟨46, _⟩ => ⟨S4x64x256x512x1, .i1⟩
  | .hbm, ⟨47, _⟩ => ⟨S1x1x1x1x1, .i32⟩
  | .hbm, ⟨48, _⟩ => ⟨S4x64x256x512x1, .i32⟩
  | .hbm, ⟨49, _⟩ => ⟨S4x64x256x512x1, .i1⟩
  | .hbm, ⟨50, _⟩ => ⟨S4x64x256x512x1, .i1⟩
  | .hbm, ⟨51, _⟩ => ⟨S_, .i1⟩
  | .hbm, ⟨52, _⟩ => ⟨S4x64x256x512, .i1⟩
  | .hbm, ⟨53, _⟩ => ⟨S4x64x256x512, .f32⟩
  | .hbm, ⟨54, _⟩ => ⟨S_, .f32⟩
  | .hbm, ⟨55, _⟩ => ⟨S4x64x256x512, .f32⟩
  | .hbm, ⟨56, _⟩ => ⟨S4x64x256x512, .f32⟩
  | .hbm, ⟨57, _⟩ => ⟨S_, .i32⟩
  | .hbm, ⟨58, _⟩ => ⟨S4x64x256x512, .i32⟩
  | .hbm, ⟨59, _⟩ => ⟨S4x64x256x512, .i1⟩
  | .hbm, ⟨60, _⟩ => ⟨S_, .i32⟩
  | .hbm, ⟨61, _⟩ => ⟨S4x64x256x512, .i32⟩
  | .hbm, ⟨62, _⟩ => ⟨S4x64x256x512, .i32⟩
  | .hbm, ⟨63, _⟩ => ⟨S4x64x256x512, .i32⟩
  | .hbm, ⟨64, _⟩ => ⟨S4x64x256x512x1, .i32⟩
  | .hbm, ⟨65, _⟩ => ⟨S1, .i32⟩
  | .hbm, ⟨66, _⟩ => ⟨S_, .i32⟩
  | .hbm, ⟨67, _⟩ => ⟨S4x64x256x512x1, .i32⟩
  | .hbm, ⟨68, _⟩ => ⟨S4x64x256x512x1, .i1⟩
  | .hbm, ⟨69, _⟩ => ⟨S1x1x1x1x1, .i32⟩
  | .hbm, ⟨70, _⟩ => ⟨S4x64x256x512x1, .i32⟩
  | .hbm, ⟨71, _⟩ => ⟨S4x64x256x512x1, .i1⟩
  | .hbm, ⟨72, _⟩ => ⟨S4x64x256x512x1, .i1⟩
  | .hbm, ⟨73, _⟩ => ⟨S_, .i1⟩
  | .hbm, ⟨74, _⟩ => ⟨S4x64x256x512, .i1⟩
  | .hbm, ⟨75, _⟩ => ⟨S4x64x256x512, .f32⟩
  | .hbm, ⟨76, _⟩ => ⟨S_, .f32⟩
  | .hbm, ⟨77, _⟩ => ⟨S4x64x256x512, .f32⟩
  | .hbm, ⟨78, _⟩ => ⟨S4x64x256x512, .f32⟩
  | .hbm, ⟨79, _⟩ => ⟨S4x64x256x512, .f32⟩
  | .hbm, ⟨80, _⟩ => ⟨S4x64x256x512, .f32⟩
  | .hbm, ⟨81, _⟩ => ⟨S4x64x256x512, .f32⟩
  | .hbm, ⟨82, _⟩ => ⟨S4x64x256x512, .f32⟩
  | .hbm, ⟨83, _⟩ => ⟨S_, .f32⟩
  | .hbm, ⟨84, _⟩ => ⟨S4x64x256x512, .f32⟩
  | .hbm, ⟨85, _⟩ => ⟨S4x64x256x512, .i1⟩
  | .hbm, ⟨86, _⟩ => ⟨S4x64x256x512, .f32⟩
  | .hbm, ⟨87, _⟩ => ⟨S_, .f32⟩
  | .hbm, ⟨88, _⟩ => ⟨S4x64x256x512, .f32⟩
  | .hbm, ⟨89, _⟩ => ⟨S4x64x256x512, .i1⟩
  | .hbm, ⟨90, _⟩ => ⟨S4x64x256x512, .f32⟩
  | .hbm, ⟨91, _⟩ => ⟨S4x64x256x512, .f32⟩
  | .hbm, ⟨92, _⟩ => ⟨S_, .f32⟩
  | .hbm, ⟨93, _⟩ => ⟨S4x64x256x512, .f32⟩
  | .hbm, ⟨94, _⟩ => ⟨S4x64x256x512, .f32⟩
  | .hbm, ⟨95, _⟩ => ⟨S4x64x256x512, .f32⟩
  | .hbm, ⟨96, _⟩ => ⟨S_, .f32⟩
  | .hbm, ⟨97, _⟩ => ⟨S4x64x256x512, .f32⟩
  | .hbm, ⟨98, _⟩ => ⟨S4x64x256x512, .f32⟩
  | _, _ => ⟨S4x64x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_c_2 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call2_c : Ref sig .tc := ⟨.hbm, 35, rfl⟩
abbrev main_call2_v0 : Ref sig .tc := ⟨.hbm, 36, rfl⟩
abbrev main_call2_v1 : Ref sig .tc := ⟨.hbm, 37, rfl⟩
abbrev main_call2_c_0 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_c_1 : Ref sig .tc := ⟨.hbm, 43, rfl⟩
abbrev main_call2_c_2 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_3 : Ref sig .tc := ⟨.hbm, 51, rfl⟩
abbrev main_call2_v12 : Ref sig .tc := ⟨.hbm, 52, rfl⟩
abbrev main_call2_v13 : Ref sig .tc := ⟨.hbm, 53, rfl⟩
abbrev main_call2_cst : Ref sig .tc := ⟨.hbm, 54, rfl⟩
abbrev main_call2_v14 : Ref sig .tc := ⟨.hbm, 55, rfl⟩
abbrev main_v18 : Ref sig .tc := ⟨.hbm, 56, rfl⟩
abbrev main_call3_c : Ref sig .tc := ⟨.hbm, 57, rfl⟩
abbrev main_call3_v0 : Ref sig .tc := ⟨.hbm, 58, rfl⟩
abbrev main_call3_v1 : Ref sig .tc := ⟨.hbm, 59, rfl⟩
abbrev main_call3_c_0 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_call3_v5 : Ref sig .tc := ⟨.hbm, 64, rfl⟩
abbrev main_call3_c_1 : Ref sig .tc := ⟨.hbm, 65, rfl⟩
abbrev main_call3_c_2 : Ref sig .tc := ⟨.hbm, 66, rfl⟩
abbrev main_call3_v6 : Ref sig .tc := ⟨.hbm, 67, rfl⟩
abbrev main_call3_v7 : Ref sig .tc := ⟨.hbm, 68, rfl⟩
abbrev main_call3_v8 : Ref sig .tc := ⟨.hbm, 69, rfl⟩
abbrev main_call3_v9 : Ref sig .tc := ⟨.hbm, 70, rfl⟩
abbrev main_call3_v10 : Ref sig .tc := ⟨.hbm, 71, rfl⟩
abbrev main_call3_v11 : Ref sig .tc := ⟨.hbm, 72, rfl⟩
abbrev main_call3_c_3 : Ref sig .tc := ⟨.hbm, 73, rfl⟩
abbrev main_call3_v12 : Ref sig .tc := ⟨.hbm, 74, rfl⟩
abbrev main_call3_v13 : Ref sig .tc := ⟨.hbm, 75, rfl⟩
abbrev main_call3_cst : Ref sig .tc := ⟨.hbm, 76, rfl⟩
abbrev main_call3_v14 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_cst_3 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_cst_4 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_cst_5 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_cst_6 : Ref sig .tc := ⟨.hbm, 96, rfl⟩
abbrev main_v34 : Ref sig .tc := ⟨.hbm, 97, rfl⟩
abbrev main_v35 : Ref sig .tc := ⟨.hbm, 98, rfl⟩

abbrev nD : Nat := 1
abbrev τ : Topo := Topo.v7x

variable {F : FTy → Type} [FloatOps F]
-- ==== Proof.Rows.lean ====
/-
  WHICH ROWS OF PIXELS A SUBCORE WORKS ON. The image is 4 × 256 rows of 512 pixels; the kernel keeps the 256 rows of one
  picture end to end, so row `p` of the 1,024 starts at picture `p / 256`, pixel `512 · (p % 256)`. Vector subcore `s` of
  SparseCore `c` works on the 32 rows from `64 · s + 32 · c` on, one a trip. Here: that number, the offsets the kernel
  computes from it, and the partition of the result's elements among the subcores and their trips.
-/
module

public import proofs.«01_k».proof.Proof.Gen.KernelIdeal
public import proofs.«01_k».proof.Proof.Gen.KernelIdeal.Skeleton

@[expose] public section

noncomputable section

namespace Cert.Proof.Warp

open Cert.KernelIdeal Cert.KernelIdeal.Gen Idealize.ShloMosaic

/-! ## The row of a trip -/

/-- The coordinates of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem eq_coordsV (i : grid0.Coords) : i = coordsV (i 0) (i 1) := by
  funext a
  match a with
  | 0 => rfl
  | 1 => rfl

/-- The row of pixels that trip `k` of the subcore at `i` works on. -/
def rowOf (i : grid0.Coords) (k : ℕ) : ℕ := 64 * (i 1).val + 32 * (i 0).val + k

theorem rowOf_lt (i : grid0.Coords) {k : ℕ} (hk : k < 32) : rowOf i k < 1024 := by
  have h0 : (i 0).val < 2 := (i 0).isLt
  have h1 : (i 1).val < 16 := (i 1).isLt
  unfold rowOf; omega

theorem trips1 : k0_t1_loop.trips = 32 := by decide
theorem trips2 : k0_t2_loop.trips = 32 := by decide
theorem trips3 : k0_t3_loop.trips = 64 := by decide

set_option maxRecDepth 100000 in
/-- The offsets in the displacements: the row's picture, the row's first pixel. -/
theorem off1_eq (i : grid0.Coords) (k : Fin k0_t1_loop.trips) :
    k0_off1 i k = ![rowOf i k.val / 256, 512 * (rowOf i k.val % 256)] := by
  rw [eq_coordsV i]
  generalize i 0 = c
  generalize i 1 = s
  revert c s k
  decide +kernel

set_option maxRecDepth 100000 in
/-- The offsets in the picture and in the result: the row's picture, every channel, the row's first pixel. -/
theorem off2_eq (i : grid0.Coords) (k : Fin k0_t1_loop.trips) :
    k0_off2 i k = ![rowOf i k.val / 256, 0, 512 * (rowOf i k.val % 256)] := by
  rw [eq_coordsV i]
  generalize i 0 = c
  generalize i 1 = s
  revert c s k
  decide +kernel

/-! ## The result's elements, by row -/

/-- The row of pixels that element `x` of the result lies in. -/
def rowIx (x : S4x64x131072.Idx) : ℕ := 256 * (x 0).val + (x 2).val / 512

/-- The elements of the result that the subcore at `i` writes. -/
def tileSet (i : grid0.Coords) : Finset S4x64x131072.Idx :=
  Finset.univ.filter fun x => rowIx x / 32 = 2 * (i 1).val + (i 0).val

/-- The elements of row `p`. -/
def rowSet (p : ℕ) : Finset S4x64x131072.Idx := Finset.univ.filter fun x => rowIx x = p

theorem mem_tileSet {i : grid0.Coords} {x : S4x64x131072.Idx} : x ∈ tileSet i ↔ rowIx x / 32 = 2 * (i 1).val + (i 0).val := by
  simp [tileSet]
theorem mem_rowSet {p : ℕ} {x : S4x64x131072.Idx} : x ∈ rowSet p ↔ rowIx x = p := by simp [rowSet]

/-- A trip's row is one of its subcore's. -/
theorem rowSet_subset (i : grid0.Coords) {k : ℕ} (hk : k < 32) : rowSet (rowOf i k) ⊆ tileSet i := fun x hx => by
  rw [mem_rowSet] at hx
  rw [mem_tileSet, hx]; unfold rowOf; omega

/-- No two subcores write one element. -/
theorem tileSet_disjoint {i j : grid0.Coords} (h : i ≠ j) : Disjoint (tileSet i) (tileSet j) := by
  refine Finset.disjoint_left.2 fun x hi hj => h ?_
  rw [mem_tileSet] at hi hj
  have h0 : (i 0).val < 2 := (i 0).isLt
  have h0' : (j 0).val < 2 := (j 0).isLt
  rw [eq_coordsV i, eq_coordsV j, show i 0 = j 0 from Fin.ext (by omega), show i 1 = j 1 from Fin.ext (by omega)]

/-- Every element of the result is some subcore's. -/
theorem exists_tileSet (x : S4x64x131072.Idx) : ∃ (c : Fin 2) (s : Fin 16), x ∈ tileSet (coordsV c s) := by
  have h0 : (x 0).val < 4 := (x 0).isLt
  have h2 : (x 2).val < 131072 := (x 2).isLt
  have hr : rowIx x < 1024 := by unfold rowIx; omega
  refine ⟨⟨rowIx x / 32 % 2, by omega⟩, ⟨rowIx x / 64, by omega⟩, ?_⟩
  rw [mem_tileSet]
  show rowIx x / 32 = 2 * (rowIx x / 64) + rowIx x / 32 % 2
  omega

/-- The trips of the subcore at `i` before trip `k` have written `x`. -/
theorem row_done {i : grid0.Coords} {x : S4x64x131072.Idx} (hx : x ∈ tileSet i) : rowIx x < rowOf i 32 := by
  rw [mem_tileSet] at hx; unfold rowOf; omega
theorem row_ge {i : grid0.Coords} {x : S4x64x131072.Idx} (hx : x ∈ tileSet i) : ¬ rowIx x < rowOf i 0 := by
  rw [mem_tileSet] at hx; unfold rowOf; omega

end Cert.Proof.Warp

end
-- ==== Proof.Pixel.lean ====
/-
  WHAT THE KERNEL COMPUTES FOR ONE PIXEL, over any float values. A pixel at column `w` with displacement `d` samples the
  row at the position `w + d`: the value at the column left of it (`colA`) and the one right of it (`colB`), weighted by
  the distances (`pix`). The kernel does sixteen columns at once; each of its vector expressions, read at one lane, is
  the same expression of that lane's words. Also the arrays built of pixels: one row over the 64 channels (`slabOut`),
  and the whole result (`warped`).
-/
module

public import proofs.«01_k».proof.Proof.Rows
public import Idealize.ShloMosaic.Lib.ValueIdxCore

@[expose] public section

noncomputable section

namespace Cert.Proof.Warp

open Cert.KernelIdeal Cert.KernelIdeal.Gen Idealize.ShloMosaic Idealize.ShloMosaic.ValueIdx

variable {F : FTy → Type} [FloatOps F]

/-! ## One pixel -/

/-- The column left of the sampling position, clipped to the row. -/
def colA (w : BitVec 32) (d : F .f32) : BitVec 32 := k0_pay4 (fun _ => w) (fun _ => d) (ix1 0)

/-- The column after column `a`, clipped to the row. -/
def colB (a : BitVec 32) : BitVec 32 := k0_pay5 (fun _ => a) (ix1 0)

/-- The two columns' values `a` and `b`, weighted. -/
def pix (w : BitVec 32) (d a b : F .f32) : F .f32 := k0_pay6 (fun _ => w) (fun _ => d) (fun _ => a) (fun _ => b) (ix1 0)

theorem pay4_apply (v39 : IVec S16 32) (v43 : Vec F S16 .f32) (x : S16.Idx) : k0_pay4 v39 v43 x = colA (v39 x) (v43 x) := rfl
theorem pay5_apply (v55 : IVec S16 32) (x : S16.Idx) : k0_pay5 v55 x = colB (v55 x) := rfl
theorem pay6_apply (v39 : IVec S16 32) (v43 v74 v75 : Vec F S16 .f32) (x : S16.Idx) :
    k0_pay6 v39 v43 v74 v75 x = pix (v39 x) (v43 x) (v74 x) (v75 x) := rfl

/-- A word clipped to `0 … 511` is below 512. -/
theorem clip_lt (z : BitVec 32) : (IntOp.minsi 511#32 (IntOp.maxsi 0#32 z)).toNat < 512 := by
  unfold IntOp.minsi IntOp.maxsi
  have h511 : (511#32 : BitVec 32).toInt = 511 := by decide
  have h0 : (0#32 : BitVec 32).toInt = 0 := by decide
  simp only [BitVec.slt_iff_toInt_lt, h511, h0]
  have hz := BitVec.toInt_eq_toNat_cond z
  have hl := z.isLt
  split_ifs <;> first | decide | (simp only [h0] at *; split_ifs at hz <;> omega)

theorem colA_lt (w : BitVec 32) (d : F .f32) : (colA w d).toNat < 512 := clip_lt _

/-- The successor of a column, clipped, as a number. -/
theorem colB_toNat (a : BitVec 32) (ha : a.toNat < 512) : (colB a).toNat = min (a.toNat + 1) 511 := by
  show (IntOp.minsi (IntOp.addi a 1#32) 511#32).toNat = _
  unfold IntOp.minsi IntOp.addi
  have h511 : (511#32 : BitVec 32).toInt = 511 := by decide
  have e : (a + 1#32).toNat = a.toNat + 1 := by rw [BitVec.toNat_add]; simp; omega
  have hi : (a + 1#32).toInt = ((a.toNat + 1 : ℕ) : ℤ) := by rw [BitVec.toInt_eq_toNat_of_lt (by rw [e]; omega), e]
  simp only [BitVec.slt_iff_toInt_lt, h511, hi]
  split_ifs
  · rw [e]; omega
  · simp; omega

theorem colB_lt (a : BitVec 32) (ha : a.toNat < 512) : (colB a).toNat < 512 := by rw [colB_toNat a ha]; omega

/-! ## The sixteen columns of a chunk -/

/-- Lane `x` of chunk `j` is column `16 j + x`. -/
theorem pay1_apply (j : Fin k0_t2_loop.trips) (x : S16.Idx) : k0_pay1 j x = BitVec.ofNat 32 (16 * j.val + (x 0).val) := by
  have hx : (x 0).val < 16 := (x 0).isLt
  have hj : j.val < 32 := lt_of_lt_of_eq j.isLt trips2
  show IntOp.addi (BitVec.ofNat 32 (0 * 16 + (x 0).val)) (Scalar.muli (Scf.iv 0#32 1#32 j) 16#32) = _
  unfold IntOp.addi Scalar.muli IntOp.muli Scf.iv
  refine BitVec.eq_of_toNat_eq ?_
  simp [BitVec.toNat_add, BitVec.toNat_mul, BitVec.toNat_ofNat]
  omega

theorem pay1_toNat (j : Fin k0_t2_loop.trips) (x : S16.Idx) : (k0_pay1 j x).toNat = 16 * j.val + (x 0).val := by
  have hx : (x 0).val < 16 := (x 0).isLt
  have hj : j.val < 32 := lt_of_lt_of_eq j.isLt trips2
  rw [pay1_apply, BitVec.toNat_ofNat]; omega

/-- The channel of trip `c`. -/
theorem chan_toNat (c : Fin k0_t3_loop.trips) : (Scf.iv 0#32 1#32 c : BitVec 32).toNat = c.val := by
  have hc : c.val < 64 := lt_of_lt_of_eq c.isLt trips3
  unfold Scf.iv
  simp
  omega

/-- The indices of every gather and scatter are in bounds. -/
theorem chk (j : Fin k0_t2_loop.trips) (c : Fin k0_t3_loop.trips) (v43 : Vec F S16 .f32) :
    k0_chk1 (k0_pay1 j) (k0_pay4 (k0_pay1 j) v43) (k0_pay5 (k0_pay4 (k0_pay1 j) v43)) (broadcast S16 (Scf.iv 0#32 1#32 c)) := by
  have hc : (Scf.iv 0#32 1#32 c : BitVec 32).toNat < 64 := by rw [chan_toNat]; exact lt_of_lt_of_eq c.isLt trips3
  have hj : j.val < 32 := lt_of_lt_of_eq j.isLt trips2
  have hA : ∀ x, (k0_pay4 (k0_pay1 j) v43 x).toNat < 512 := fun x => by rw [pay4_apply]; exact colA_lt _ _
  have hB : ∀ x, (k0_pay5 (k0_pay4 (k0_pay1 j) v43) x).toNat < 512 := fun x => by rw [pay5_apply]; exact colB_lt _ (hA x)
  have hW : ∀ x, (k0_pay1 j x).toNat < 512 := fun x => by
    have hx : (x 0).val < 16 := (x 0).isLt
    rw [pay1_toNat]; omega
  generalize k0_pay4 (k0_pay1 j) v43 = v55 at hA hB ⊢
  generalize k0_pay5 v55 = v59 at hB ⊢
  generalize k0_pay1 j = v39 at hW ⊢
  exact ⟨fun a x => match a with | 0 => hc | 1 => hA x, fun a x => match a with | 0 => hc | 1 => hB x,
    fun a x => match a with | 0 => hc | 1 => hW x⟩

/-! ## One row, the whole result -/

/-- One row over the 64 channels: from the row's displacements `dv` and the picture's row `rv`. -/
def slabOut (dv : S512.Idx → F .f32) (rv : S64x512.Idx → F .f32) : S64x512.Idx → F .f32 := fun j =>
  let w : BitVec 32 := BitVec.ofNat 32 (j 1).val
  let d := dv (ix1 (j 1))
  pix w d (rv (ix2 (j 0) ⟨(colA w d).toNat, colA_lt w d⟩)) (rv (ix2 (j 0) ⟨(colB (colA w d)).toNat, colB_lt _ (colA_lt w d)⟩))

/-- Row `p` of the displacements. -/
def dispRow (D : S4x131072.Idx → F .f32) (p : ℕ) (hp : p < 1024) : S512.Idx → F .f32 := fun x =>
  D (ix2 ⟨p / 256, by omega⟩ ⟨512 * (p % 256) + (x 0).val, by have h : (x 0).val < 512 := (x 0).isLt; omega⟩)

/-- Row `p` of the picture, every channel. -/
def slabRow (R : S4x64x131072.Idx → F .f32) (p : ℕ) (hp : p < 1024) : S64x512.Idx → F .f32 := fun j =>
  R (ix3 ⟨p / 256, by omega⟩ (j 0) ⟨512 * (p % 256) + (j 1).val, by have h : (j 1).val < 512 := (j 1).isLt; omega⟩)

theorem rowIx_lt (x : S4x64x131072.Idx) : rowIx x < 1024 := by
  have h0 : (x 0).val < 4 := (x 0).isLt
  have h2 : (x 2).val < 131072 := (x 2).isLt
  unfold rowIx; omega

/-- The whole result: each row of pixels from its displacements and its picture. -/
def warped (R : S4x64x131072.Idx → F .f32) (D : S4x131072.Idx → F .f32) : S4x64x131072.Idx → F .f32 := fun x =>
  slabOut (dispRow D (rowIx x) (rowIx_lt x)) (slabRow R (rowIx x) (rowIx_lt x)) (ix2 (x 1) ⟨(x 2).val % 512, Nat.mod_lt _ (by decide)⟩)

end Cert.Proof.Warp

end
-- ==== Proof.Chunk.lean ====
/-
  THE ROW AS IT FILLS. The kernel fills a row of pixels sixteen columns at a time and, within those, one channel at a
  time: `partRow dv rv f₀ j c` is the row when chunks 0 … j − 1 are complete and of chunk j channels 0 … c − 1, from
  contents `f₀`. One scatter (`store_partRow`) moves `c` on by one; a complete chunk moves `j` on; all chunks done, the
  row is `slabOut`.
-/
module

public import proofs.«01_k».proof.Proof.Pixel

@[expose] public section

noncomputable section

namespace Cert.Proof.Warp

open Cert.KernelIdeal Cert.KernelIdeal.Gen Idealize.ShloMosaic Idealize.ShloMosaic.ValueIdx

variable {F : FTy → Type} [FloatOps F]

/-- The row with the first `j` chunks complete, and `c` channels of the next. -/
def partRow (dv : S512.Idx → F .f32) (rv f₀ : S64x512.Idx → F .f32) (j c : ℕ) : S64x512.Idx → F .f32 := fun x =>
  if (x 1).val < 16 * j ∨ ((x 1).val < 16 * j + 16 ∧ (x 0).val < c) then slabOut dv rv x else f₀ x

variable (dv : S512.Idx → F .f32) (rv f₀ : S64x512.Idx → F .f32)

theorem partRow_start : partRow dv rv f₀ 0 0 = f₀ := funext fun x => if_neg (by omega)

theorem partRow_chunk (j : ℕ) : partRow dv rv f₀ j 64 = partRow dv rv f₀ (j + 1) 0 := by
  funext x
  have h0 : (x 0).val < 64 := (x 0).isLt
  unfold partRow
  congr 1
  exact propext (by omega)

theorem partRow_end : partRow dv rv f₀ 32 0 = slabOut dv rv := funext fun x => if_pos (by
  have h1 : (x 1).val < 512 := (x 1).isLt
  omega)

/-! ## A fold of guarded overwrites, read at one place -/

section Fold
variable {ι α : Type} {κ : Type} (P : κ → ι → Prop) [∀ k j, Decidable (P k j)] (y : κ → α)

/-- No overwrite meets the place. -/
theorem foldl_miss (j : ι) : ∀ (L : List κ) (f : ι → α), (∀ k ∈ L, ¬ P k j) →
    L.foldl (fun g k => fun j' => if P k j' then y k else g j') f j = f j
  | [], _, _ => rfl
  | k :: L, f, h => by
    rw [List.foldl_cons, foldl_miss j L _ fun k' hk' => h k' (List.mem_cons_of_mem _ hk')]
    exact if_neg (h k List.mem_cons_self)

/-- Exactly one overwrite meets the place: `k`'s. -/
theorem foldl_hit (j : ι) (k : κ) (hk : P k j) : ∀ (L : List κ) (f : ι → α), k ∈ L → (∀ k' ∈ L, P k' j → k' = k) →
    L.foldl (fun g k => fun j' => if P k j' then y k else g j') f j = y k
  | [], _, h, _ => absurd h List.not_mem_nil
  | k' :: L, f, h, hu => by
    rw [List.foldl_cons]
    by_cases hL : k ∈ L
    · exact foldl_hit j k hk L _ hL fun k'' hk'' => hu k'' (List.mem_cons_of_mem _ hk'')
    · rw [foldl_miss P y j L _ fun k'' hk'' hP => hL (hu k'' (List.mem_cons_of_mem _ hk'') hP ▸ hk'')]
      rcases List.mem_cons.1 h with rfl | h
      · exact if_pos hk
      · exact absurd h hL
end Fold

/-! ## One scatter -/

/-- Sixteen values, each at its lane's channel and column, over `f`: where a lane names the place, that lane's value;
    elsewhere `f`. -/
theorem storeIdx_cols (f : Vec F S64x512 .f32) (v73 v39 : IVec S16 32) (v : Vec F S16 .f32) (c j : ℕ)
    (h : ∀ a x, ((![v73, v39] : Fin 2 → IVec S16 32) a x).toNat < S64x512.size a)
    (h73 : ∀ x, (v73 x).toNat = c) (h39 : ∀ x, (v39 x).toNat = 16 * j + (x 0).val) (z : S64x512.Idx) :
    storeIdx (F := F) (s := S64x512) (e := .f32) (d := ![16]) f ![v73, v39] v (fun _ => 1#1) false h z
      = if hz : (z 0).val = c ∧ 16 * j ≤ (z 1).val ∧ (z 1).val < 16 * j + 16 then v (ix1 ⟨(z 1).val - 16 * j, by omega⟩) else f z := by
  have hP : ∀ k : Fin 16, (∀ a, (z a).val = (idxAt (s := S64x512) (t := S16) ![v73, v39] h (Shape.ofLane (d := ![16]) k) a).val)
      ↔ ((z 0).val = c ∧ (z 1).val = 16 * j + k.val) := fun k => by
    have e0 : (idxAt (s := S64x512) (t := S16) ![v73, v39] h (Shape.ofLane (d := ![16]) k) 0).val = c := h73 _
    have e1 : (idxAt (s := S64x512) (t := S16) ![v73, v39] h (Shape.ofLane (d := ![16]) k) 1).val = 16 * j + k.val := h39 _
    constructor
    · intro H; exact ⟨(H 0).trans e0, (H 1).trans e1⟩
    · rintro ⟨H0, H1⟩ a
      match a with
      | 0 => exact H0.trans e0.symm
      | 1 => exact H1.trans e1.symm
  have hs : storeIdx (F := F) (s := S64x512) (e := .f32) (d := ![16]) f ![v73, v39] v (fun _ => 1#1) false h
      = (List.finRange 16).foldl (fun g k => fun z' => if (∀ a, (z' a).val = (idxAt (s := S64x512) (t := S16) ![v73, v39] h (Shape.ofLane (d := ![16]) k) a).val) then v (Shape.ofLane (d := ![16]) k) else g z') f :=
    congrArg (fun st => List.foldl st f (List.finRange 16)) (funext fun g => funext fun k => by
      dsimp only
      rw [if_pos (show (1#1 : BitVec 1) = 1 from rfl)]
      funext z'
      simp only [Bool.false_eq_true, ↓reduceIte])
  rw [hs]
  split_ifs with hz
  · have hk := (hP ⟨(z 1).val - 16 * j, by omega⟩).2 ⟨hz.1, by show _ = 16 * j + ((z 1).val - 16 * j); omega⟩
    refine (foldl_hit (fun (k : Fin 16) (z' : S64x512.Idx) => ∀ a, (z' a).val = (idxAt (s := S64x512) (t := S16) ![v73, v39] h (Shape.ofLane (d := ![16]) k) a).val)
      (fun k => v (Shape.ofLane (d := ![16]) k)) z ⟨(z 1).val - 16 * j, by omega⟩ hk _ f (List.mem_finRange _)
      fun k' _ hk' => Fin.ext (by have := ((hP k').1 hk').2; show k'.val = (z 1).val - 16 * j; omega)).trans ?_
    congr 1
    funext a
    match a with
    | 0 => rfl
  · exact foldl_miss (fun (k : Fin 16) (z' : S64x512.Idx) => ∀ a, (z' a).val = (idxAt (s := S64x512) (t := S16) ![v73, v39] h (Shape.ofLane (d := ![16]) k) a).val)
      (fun k => v (Shape.ofLane (d := ![16]) k)) z _ f fun k _ hk => hz (by have := (hP k).1 hk; have := k.isLt; omega)

/-- Channel `c` of chunk `j`: the scatter of the sixteen pixels computed from the two gathers. -/
theorem store_partRow (j : Fin k0_t2_loop.trips) (c : Fin k0_t3_loop.trips) (v43 : Vec F S16 .f32)
    (h43 : ∀ x : S16.Idx, v43 x = dv (ix1 ⟨16 * j.val + (x 0).val, by
      have hx : (x 0).val < 16 := (x 0).isLt
      have hj : j.val < 32 := lt_of_lt_of_eq j.isLt trips2
      omega⟩))
    (hA : ∀ a x, ((![broadcast S16 (Scf.iv 0#32 1#32 c), k0_pay4 (k0_pay1 j) v43] : Fin 2 → IVec S16 32) a x).toNat < S64x512.size a)
    (hB : ∀ a x, ((![broadcast S16 (Scf.iv 0#32 1#32 c), k0_pay5 (k0_pay4 (k0_pay1 j) v43)] : Fin 2 → IVec S16 32) a x).toNat < S64x512.size a)
    (hW : ∀ a x, ((![broadcast S16 (Scf.iv 0#32 1#32 c), k0_pay1 j] : Fin 2 → IVec S16 32) a x).toNat < S64x512.size a) :
    storeIdx (F := F) (s := S64x512) (e := .f32) (d := ![16]) (partRow dv rv f₀ j.val c.val : Vec F S64x512 .f32) ![broadcast S16 (Scf.iv 0#32 1#32 c), k0_pay1 j]
        (k0_pay6 (k0_pay1 j) v43
          (loadIdx (F := F) (s := S64x512) (e := .f32) (rv : Vec F S64x512 .f32) ![broadcast S16 (Scf.iv 0#32 1#32 c), k0_pay4 (k0_pay1 j) v43] hA)
          (loadIdx (F := F) (s := S64x512) (e := .f32) (rv : Vec F S64x512 .f32) ![broadcast S16 (Scf.iv 0#32 1#32 c), k0_pay5 (k0_pay4 (k0_pay1 j) v43)] hB))
        (fun _ => 1#1) false hW
      = partRow dv rv f₀ j.val (c.val + 1) := by
  funext z
  rw [storeIdx_cols _ _ _ _ c.val j.val hW (fun _ => chan_toNat c) (pay1_toNat j)]
  have h0 : (z 0).val < 64 := (z 0).isLt
  unfold partRow
  split_ifs with h1 h2 h3 h4 h5
  · rw [pay6_apply]
    have ew : k0_pay1 j (ix1 ⟨(z 1).val - 16 * j.val, by omega⟩) = BitVec.ofNat 32 (z 1).val := by
      rw [pay1_apply]; congr 1; show 16 * j.val + ((z 1).val - 16 * j.val) = _; omega
    have ed : v43 (ix1 ⟨(z 1).val - 16 * j.val, by omega⟩) = dv (ix1 (z 1)) := by
      rw [h43]; congr 2; exact Fin.ext (by show 16 * j.val + ((z 1).val - 16 * j.val) = _; omega)
    have ez : ∀ (g : IVec S16 32) (hg : ∀ a x, ((![broadcast S16 (Scf.iv 0#32 1#32 c), g] : Fin 2 → IVec S16 32) a x).toNat < S64x512.size a)
        (x : S16.Idx) (b : BitVec 32) (hb : b.toNat < 512), g x = b →
        loadIdx (F := F) (s := S64x512) (e := .f32) (rv : Vec F S64x512 .f32) ![broadcast S16 (Scf.iv 0#32 1#32 c), g] hg x = rv (ix2 (z 0) ⟨b.toNat, hb⟩) := by
      rintro g hg x b hb rfl
      unfold loadIdx
      congr 1
      funext a
      match a with
      | 0 => exact Fin.ext ((chan_toNat c).trans h1.1.symm)
      | 1 => rfl
    have eA : k0_pay4 (k0_pay1 j) v43 (ix1 ⟨(z 1).val - 16 * j.val, by omega⟩) = colA (BitVec.ofNat 32 (z 1).val) (dv (ix1 (z 1))) := by
      rw [pay4_apply, ew, ed]
    rw [ez _ hA _ _ (colA_lt _ _) eA, ez _ hB _ (colB (colA (BitVec.ofNat 32 (z 1).val) (dv (ix1 (z 1))))) (colB_lt _ (colA_lt _ _))
      (by rw [pay5_apply, eA]), ew, ed]
    rfl
  all_goals first | rfl | (exfalso; omega)

end Cert.Proof.Warp

end
-- ==== Proof.Launch.lean ====
/-
  THE KERNEL'S LAUNCH: what the program's one SparseCore call hands each vector subcore and takes back. Every subcore reads
  the whole picture and all the displacements, so it gets a 32nd share of each; of the result it gets, outright, the
  elements it writes (`tileSet`), and brings them back holding the warped picture.
-/
module

public import proofs.«01_k».proof.Defs
public import proofs.«01_k».proof.Proof.Chunk
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.ValueLayout
public import Idealize.ShloMosaic.Lib.Tactic

@[expose] public section

noncomputable section

namespace Cert.Proof.Warp

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The program's arguments, and the kernel's operands and result, on device `d`. -/
abbrev aLoc (d : Dev nD) : Loc nD τ sig := (SparseCore.T d).loc main_arg0
abbrev bLoc (d : Dev nD) : Loc nD τ sig := (SparseCore.T d).loc main_arg1
abbrev xLoc (d : Dev nD) : Loc nD τ sig := (SparseCore.T d).loc main_v0
abbrev dLoc (d : Dev nD) : Loc nD τ sig := (SparseCore.T d).loc main_v1
abbrev oLoc (d : Dev nD) : Loc nD τ sig := (SparseCore.T d).loc main_v2
abbrev rLoc (d : Dev nD) : Loc nD τ sig := (SparseCore.T d).loc main_v3

/-- The kernel's memrefs: the picture, the displacements, the result, and a subcore's three scratch buffers. -/
abbrev xW : Memref sig .scVector .hbm S4x64x131072 .f32 := Memref.whole main_v0_scv
abbrev dW : Memref sig .scVector .hbm S4x131072 .f32 := Memref.whole main_v1_scv
abbrev oW : Memref sig .scVector .hbm S4x64x131072 .f32 := Memref.whole main_v2_scv
abbrev dS : Memref sig .scVector .vmem S512 .f32 := Memref.whole cc0_scratch0
abbrev xS : Memref sig .scVector .vmem S64x512 .f32 := Memref.whole cc0_scratch1
abbrev oS : Memref sig .scVector .vmem S64x512 .f32 := Memref.whole cc0_scratch2

variable (m : (ℓ : Loc nD τ sig) → Buf (Elt F) ℓ)

/-- The picture and the displacements as the kernel finds them: the arguments, each picture's rows end to end. -/
def pic (d : Dev nD) : S4x64x131072.Idx → F .f32 := shapeCast S4x64x131072 (m (aLoc d)) shapeCasts_S4x64x256x512_S4x64x131072
def disp (d : Dev nD) : S4x131072.Idx → F .f32 := shapeCast S4x131072 (m (bLoc d)) shapeCasts_S4x1x256x512_S4x131072

/-- Subcore `i`'s share of an array that all read: the full share halved for its SparseCore, and four times more. -/
def tq (i : grid0.Coords) : PosShare TreeShare := ShareLeaves.leaf 4 (ShareLeaves.leaf 1 fullShare (i 0)) (i 1)

variable [FloatOps F]

/-! ## What the call's handshakes carry -/

/-- What a subcore is handed: its shares of the picture and the displacements, its elements of the result. -/
def goT (d : Dev nD) (i : grid0.Coords) : sProp 𝕄 :=
  iprop((xLoc d ↦{tq i} pic m d) ∗ (dLoc d ↦{tq i} disp m d) ∗ oLoc d ↦[tileSet i]{fullShare} m (oLoc d))

/-- What it brings back: the same shares, its elements of the result at the warped picture's. -/
def tdT (d : Dev nD) (i : grid0.Coords) : sProp 𝕄 :=
  iprop((xLoc d ↦{tq i} pic m d) ∗ (dLoc d ↦{tq i} disp m d) ∗ oLoc d ↦[tileSet i]{fullShare} warped (pic m d) (disp m d))

instance goT_storable (d : Dev nD) (i : grid0.Coords) : BI.Storable (upEmb : UEmb _ 𝕄) (goT m d i) := by unfold goT; infer_instance
instance tdT_storable (d : Dev nD) (i : grid0.Coords) : BI.Storable (upEmb : UEmb _ 𝕄) (tdT m d i) := by unfold tdT; infer_instance

omit [FloatOps F] in
theorem storable_all (Φ : Fin 16 → sProp 𝕄) (h : ∀ i, BI.Storable (upEmb : UEmb _ 𝕄) (Φ i)) :
    BI.Storable (upEmb : UEmb _ 𝕄) (bigSep (Finset.univ : Finset (Fin 16)) Φ) :=
  inferInstance

/-- A SparseCore takes and brings back what its sixteen subcores do. -/
def P : (K (F := F)).Pay (nD := nD) (Val := Elt F) (Name := ℕ) (U := UU) where
  st := fun q d c => match q with | 0 => bigSep (Finset.univ : Finset (Fin 16)) fun s => goT m d (coordsV c s)
  dn := fun q d c => match q with | 0 => bigSep (Finset.univ : Finset (Fin 16)) fun s => tdT m d (coordsV c s)
  go := fun q d c s => match q with | 0 => goT m d (coordsV c s)
  td := fun q d c s => match q with | 0 => tdT m d (coordsV c s)
  x := fun _ _ => iprop(emp)

instance P_storable : (P (F := F) m).IsStorable where
  st q d c := match q with
    | 0 => storable_all _ fun s => goT_storable m d (coordsV c s)
  dn q d c := match q with
    | 0 => storable_all _ fun s => tdT_storable m d (coordsV c s)
  go q d c s := match q with | 0 => goT_storable m d (coordsV c s)
  td q d c s := match q with | 0 => tdT_storable m d (coordsV c s)

/-- So the split of a SparseCore's part among its subcores is the identity, both ways. -/
theorem vecSplit : (K (F := F)).VecSplit' (P m) 0 := by
  intro d c
  show bigSep (Finset.univ : Finset (Fin 16)) (fun s => goT m d (coordsV c s)) ⊢ |={Set.univ}=> iprop(
      (bigSep (Finset.univ : Finset (Fin 16)) fun s => goT m d (coordsV c s))
      ∗ ((bigSep (Finset.univ : Finset (Fin 16)) fun s => tdT m d (coordsV c s))
          -∗ bigSep (Finset.univ : Finset (Fin 16)) fun s => tdT m d (coordsV c s)))
  iintro H; imodintro
  isplitl [H]; · iexact H
  iintro H; iexact H

end Cert.Proof.Warp

end
-- ==== Proof.Window.lean ====
/-
  THE WINDOWS OF A TRIP: the 512 displacements of its row, and the row's 64 × 512 pixels in the picture and in the result.
  Read through a window, an array is the row (`dispRow`, `slabRow`); the window on the result covers exactly the row's
  elements (`rowSet`), and what is written through it lies where it should.
-/
module

public import proofs.«01_k».proof.Proof.Launch

@[expose] public section

noncomputable section

namespace Cert.Proof.Warp

open Cert.KernelIdeal Cert.KernelIdeal.Gen Idealize.ShloMosaic Idealize.ShloMosaic.ValueIdx

variable {F : FTy → Type}

/-- A trip's windows: on the displacements, on the picture, on the result. -/
abbrev dWin (L : grid0.Coords) (k : Fin k0_t1_loop.trips) : Memref sig .scVector .hbm S512 .f32 :=
  (dW.slice (Rect.unit (s := S4x131072) (k0_off1 L k) S1x512.size (k0_off1_inb L k)) (fun _ => rfl)).squeeze S512 squeezes_S1x512_S512
abbrev xWin (L : grid0.Coords) (k : Fin k0_t1_loop.trips) : Memref sig .scVector .hbm S64x512 .f32 :=
  (xW.slice (Rect.unit (s := S4x64x131072) (k0_off2 L k) S1x64x512.size (k0_off2_inb L k)) (fun _ => rfl)).squeeze S64x512 squeezes_S1x64x512_S64x512
abbrev oWin (L : grid0.Coords) (k : Fin k0_t1_loop.trips) : Memref sig .scVector .hbm S64x512 .f32 :=
  (oW.slice (Rect.unit (s := S4x64x131072) (k0_off2 L k) S1x64x512.size (k0_off2_inb L k)) (fun _ => rfl)).squeeze S64x512 squeezes_S1x64x512_S64x512

theorem trip_lt (k : Fin k0_t1_loop.trips) : k.val < 32 := lt_of_lt_of_eq k.isLt trips1

/-! ## Where a window's elements lie -/

/-- A single leading axis dropped, nothing moves: in one dimension, and in two. -/
theorem squeeze_ix1 (x : Fin 512) :
    Shape.reshapeEquiv squeezes_S1x512_S512.numel_eq (ix1 x : S512.Idx) = (ix2 (0 : Fin 1) x : S1x512.Idx) := by
  refine Shape.reshapeEquiv_eq_of_rowMajor _ ?_
  rw [Shape.rowMajor_val_one, Shape.rowMajor_val_two]
  show 0 * 512 + x.val = x.val
  omega
theorem squeeze_ix2 (c : Fin 64) (x : Fin 512) :
    Shape.reshapeEquiv squeezes_S1x64x512_S64x512.numel_eq (ix2 c x : S64x512.Idx) = (ix3 (0 : Fin 1) c x : S1x64x512.Idx) :=
  reshapeEquiv_ix2_1ab _ c x

theorem dWin_emb (L : grid0.Coords) (k : Fin k0_t1_loop.trips) (x : S512.Idx) (h₀) (h₁) :
    (dWin L k).view.emb x = (ix2 ⟨rowOf L k / 256, h₀⟩ ⟨512 * (rowOf L k % 256) + (x 0).val, h₁⟩ : S4x131072.Idx) := by
  obtain ⟨x, rfl⟩ : ∃ y : Fin 512, x = ix1 y := ⟨x 0, (eq_ix1 x)⟩
  show ((Rect.unit (s := S4x131072) (k0_off1 L k) S1x512.size (k0_off1_inb L k)).emb
    (Shape.reshapeEquiv squeezes_S1x512_S512.numel_eq (ix1 x : S512.Idx))) = _
  rw [squeeze_ix1]
  funext a
  refine Fin.ext ?_
  refine (congrArg (fun o => o + 1 * _) (congrFun (off1_eq L k) a)).trans ?_
  match a with
  | 0 => show rowOf L k / 256 + 1 * 0 = rowOf L k / 256; omega
  | 1 => show 512 * (rowOf L k % 256) + 1 * x.val = 512 * (rowOf L k % 256) + x.val; omega

theorem xWin_emb (L : grid0.Coords) (k : Fin k0_t1_loop.trips) (x : S64x512.Idx) (h₀) (h₁) :
    (xWin L k).view.emb x = (ix3 ⟨rowOf L k / 256, h₀⟩ (x 0) ⟨512 * (rowOf L k % 256) + (x 1).val, h₁⟩ : S4x64x131072.Idx) := by
  obtain ⟨c, x, rfl⟩ : ∃ (c : Fin 64) (y : Fin 512), x = ix2 c y := ⟨x 0, x 1, (eq_ix2 x)⟩
  show ((Rect.unit (s := S4x64x131072) (k0_off2 L k) S1x64x512.size (k0_off2_inb L k)).emb
    (Shape.reshapeEquiv squeezes_S1x64x512_S64x512.numel_eq (ix2 c x : S64x512.Idx))) = _
  rw [squeeze_ix2]
  funext a
  refine Fin.ext ?_
  refine (congrArg (fun o => o + 1 * _) (congrFun (off2_eq L k) a)).trans ?_
  match a with
  | 0 => show rowOf L k / 256 + 1 * 0 = rowOf L k / 256; omega
  | 1 => show 0 + 1 * c.val = c.val; omega
  | 2 => show 512 * (rowOf L k % 256) + 1 * x.val = 512 * (rowOf L k % 256) + x.val; omega

theorem oWin_emb (L : grid0.Coords) (k : Fin k0_t1_loop.trips) (x : S64x512.Idx) (h₀) (h₁) :
    (oWin L k).view.emb x = (ix3 ⟨rowOf L k / 256, h₀⟩ (x 0) ⟨512 * (rowOf L k % 256) + (x 1).val, h₁⟩ : S4x64x131072.Idx) :=
  xWin_emb L k x h₀ h₁

theorem row_lt (L : grid0.Coords) (k : Fin k0_t1_loop.trips) : rowOf L k < 1024 := rowOf_lt L (trip_lt k)

/-! ## What is read through them -/

theorem read_dWin (L : grid0.Coords) (k : Fin k0_t1_loop.trips) (D : S4x131072.Idx → F .f32) :
    (dWin L k).view.read (Elt F) D = dispRow D (rowOf L k) (row_lt L k) := by
  funext x
  have hr := row_lt L k
  have hx : (x 0).val < 512 := (x 0).isLt
  refine ((View.read_apply _ _).trans (cast_eq _ _)).trans ?_
  exact congrArg D (dWin_emb L k x (by omega) (by omega))

theorem read_xWin (L : grid0.Coords) (k : Fin k0_t1_loop.trips) (R : S4x64x131072.Idx → F .f32) :
    (xWin L k).view.read (Elt F) R = slabRow R (rowOf L k) (row_lt L k) := by
  funext x
  have hr := row_lt L k
  have hx : (x 1).val < 512 := (x 1).isLt
  refine ((View.read_apply _ _).trans (cast_eq _ _)).trans ?_
  exact congrArg R (xWin_emb L k x (by omega) (by omega))

/-! ## What is written through the result's -/

/-- An element of the row, as the window's. -/
theorem eq_oWin_emb (L : grid0.Coords) (k : Fin k0_t1_loop.trips) (x : S4x64x131072.Idx) (hx : rowIx x = rowOf L k) :
    x = (oWin L k).view.emb (ix2 (x 1) ⟨(x 2).val % 512, Nat.mod_lt _ (by decide)⟩ : S64x512.Idx) := by
  have hr := row_lt L k
  have h0 : (x 0).val < 4 := (x 0).isLt
  have h2 : (x 2).val < 131072 := (x 2).isLt
  have hm : (x 2).val % 512 < 512 := Nat.mod_lt _ (by decide)
  rw [oWin_emb L k _ (by omega) (by show 512 * (rowOf L k % 256) + (x 2).val % 512 < 131072; omega)]
  unfold rowIx at hx
  funext a
  refine Fin.ext ?_
  match a with
  | 0 => show (x 0).val = rowOf L k / 256; omega
  | 1 => rfl
  | 2 => show (x 2).val = 512 * (rowOf L k % 256) + (x 2).val % 512; omega

theorem rowIx_oWin_emb (L : grid0.Coords) (k : Fin k0_t1_loop.trips) (y : S64x512.Idx) : rowIx ((oWin L k).view.emb y) = rowOf L k := by
  have hr := row_lt L k
  have hy : (y 1).val < 512 := (y 1).isLt
  rw [oWin_emb L k y (by omega) (by omega)]
  show 256 * (rowOf L k / 256) + (512 * (rowOf L k % 256) + (y 1).val) / 512 = rowOf L k
  omega

theorem set_oWin (L : grid0.Coords) (k : Fin k0_t1_loop.trips) : (oWin L k).view.set = rowSet (rowOf L k) := by
  ext x
  rw [mem_rowSet]
  constructor
  · intro h
    obtain ⟨y, -, rfl⟩ := Finset.mem_map.mp h
    exact rowIx_oWin_emb L k y
  · intro h
    rw [eq_oWin_emb L k x h]
    exact Finset.mem_map.mpr ⟨_, Finset.mem_univ _, rfl⟩

theorem write_oWin (L : grid0.Coords) (k : Fin k0_t1_loop.trips) (f : S4x64x131072.Idx → F .f32) (w : S64x512.Idx → F .f32)
    (x : S4x64x131072.Idx) (hx : rowIx x = rowOf L k) :
    (oWin L k).view.write (Elt F) f w Finset.univ x = w (ix2 (x 1) ⟨(x 2).val % 512, Nat.mod_lt _ (by decide)⟩) := by
  conv_lhs => rw [eq_oWin_emb L k x hx]
  exact (View.write_emb_of_mem (v := (oWin L k).view) (Val := Elt F) f w (Finset.mem_univ _)).trans (cast_eq _ _)

/-! ## The sixteen displacements a chunk loads -/

theorem read_chunk (j : Fin k0_t2_loop.trips) (dv : S512.Idx → F .f32) (x : S16.Idx) (h : 16 * j.val + (x 0).val < 512) :
    (dS).view.readAt (Elt F) ((Rect.unit (s := S512) (k0_off3 j) S16.size (k0_off3_inb j)).toLoadRect) dv x
      = dv (ix1 ⟨16 * j.val + (x 0).val, h⟩) := by
  refine ((View.read_apply _ _).trans (cast_eq _ _)).trans (congrArg dv ?_)
  show ((Rect.unit (s := S512) (k0_off3 j) S16.size (k0_off3_inb j)).emb x : S512.Idx) = _
  funext a
  refine Fin.ext ?_
  refine (congrArg (fun o => o + 1 * _) (congrFun (k0_off3_eq j) a)).trans ?_
  match a with
  | 0 => show 16 * j.val + 1 * (x 0).val = 16 * j.val + (x 0).val; omega

end Cert.Proof.Warp

end
-- ==== Proof.Tile.lean ====
/-
  ONE SUBCORE'S RUN, the value carried all the way: 32 trips, each fetching a row's displacements and its 64 × 512 pixels,
  computing the warped row in 32 chunks of sixteen pixels over 64 channels, and writing the row out. Before trip `k` the
  subcore's elements of the result hold the warped picture on the rows already done, and what they held at launch elsewhere;
  within a trip the third scratch holds the part of the warped row already stored (`partRow`).
-/
module

public import proofs.«01_k».proof.Proof.Window

@[expose] public section

noncomputable section

namespace Cert.Proof.Warp

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F] (d : Dev nD) (L : grid0.Coords)

/-- The subcore's thread. -/
abbrev cV (L : grid0.Coords) : Fin τ.nSC := (L 0).castLE hcore0
abbrev jV (L : grid0.Coords) : Fin τ.nSub := (L 1).castLE hsub0
abbrev tV (d : Dev nD) (L : grid0.Coords) : Thread nD τ := V d (cV L) (jV L)

/-! ## The subcore's own cells and buffers -/

abbrev cell0 (d : Dev nD) (L : grid0.Coords) : GSem nD τ sig := (tV d L, .dma cc0_scoped0.sem)
abbrev cell1 (d : Dev nD) (L : grid0.Coords) : GSem nD τ sig := (tV d L, .dma cc0_scoped1.sem)
abbrev cell2 (d : Dev nD) (L : grid0.Coords) : GSem nD τ sig := (tV d L, .dma cc0_scoped2.sem)

omit [FloatOps F] in
/-- The three transfers' cells, and the rest. -/
theorem ownSems0_V :
    (ownSems0 (tV d L) : sProp 𝕄)
      = iprop(semVal (cell0 d L) 0 ∗ semVal (cell1 d L) 0 ∗ semVal (cell2 d L) 0
          ∗ bigSep ((((ownCells (tV d L)).erase (cell0 d L)).erase (cell1 d L)).erase (cell2 d L)) fun g => semVal g 0) := by
  unfold SparseCore.Cfg.ownSems0
  rw [SparseCore.bigSep_erase' ((mem_ownCells (g := cell0 d L)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc0_scoped2.sem : SemLoc sig).isScoped .scVector = true; decide⟩⟩⟩)]

omit [FloatOps F] in
/-- The three scratch buffers, each at some contents, and the rest. -/
theorem ownBufs_V :
    (ownBufs (tV d L) : sProp 𝕄)
      = iprop((∃ f, (tV d L).loc cc0_scratch0 ↦{fullShare} f) ∗ (∃ f, (tV d L).loc cc0_scratch1 ↦{fullShare} f)
          ∗ (∃ f, (tV d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  have hm (b : Ref sig .scVector) (h : ((Proc.scVector (cV L) (jV L)).devRef b).owner = .proc (.scVector (cV L) (jV L))) :
      (Proc.scVector (cV L) (jV L)).devRef b ∈ ownRefs (τ := τ) (.scVector (cV L) (jV L)) := SparseCore.Cfg.mem_ownRefs_of_owner h
  have hn {a b : Ref sig .scVector} (h : a ≠ b) : (Proc.scVector (cV L) (jV L)).devRef a ≠ (Proc.scVector (cV L) (jV L)).devRef b :=
    fun e => h (Proc.devRef_injective _ e)
  refine (SparseCore.bigSep_erase' (hm cc0_scratch0 rfl)).trans ?_
  rw [SparseCore.bigSep_erase' (Finset.mem_erase.mpr ⟨hn (show (cc0_scratch1 : Ref sig .scVector) ≠ cc0_scratch0 by decide), hm cc0_scratch1 rfl⟩),
    SparseCore.bigSep_erase' (Finset.mem_erase.mpr ⟨hn (show (cc0_scratch2 : Ref sig .scVector) ≠ cc0_scratch1 by decide),
      Finset.mem_erase.mpr ⟨hn (show (cc0_scratch2 : Ref sig .scVector) ≠ cc0_scratch0 by decide), hm cc0_scratch2 rfl⟩⟩)]

/-! ## The same points-tos, as the kernel's memrefs address them -/

omit [FloatOps F] in
theorem pts_xW (q : PosShare TreeShare) (f : Buf (Elt F) (xLoc d)) :
    ((xW).view.loc (tV d L) ↦{q} f : sProp 𝕄) = xLoc d ↦{q} f := rfl
omit [FloatOps F] in
theorem pts_dW (q : PosShare TreeShare) (f : Buf (Elt F) (dLoc d)) :
    ((dW).view.loc (tV d L) ↦{q} f : sProp 𝕄) = dLoc d ↦{q} f := rfl
omit [FloatOps F] in
theorem pts_oWin (k : Fin k0_t1_loop.trips) (f : Buf (Elt F) (oLoc d)) :
    ((oWin L k).view.loc (tV d L) ↦[(oWin L k).view.set]{fullShare} f : sProp 𝕄) = oLoc d ↦[rowSet (rowOf L k)]{fullShare} f := by
  rw [set_oWin]
omit [FloatOps F] in
theorem pts_dS (f : Buf (Elt F) ((tV d L).loc cc0_scratch0)) :
    ((dS).view.loc (tV d L) ↦{fullShare} f : sProp 𝕄) = (tV d L).loc cc0_scratch0 ↦{fullShare} f := rfl
omit [FloatOps F] in
theorem pts_xS (f : Buf (Elt F) ((tV d L).loc cc0_scratch1)) :
    ((xS).view.loc (tV d L) ↦{fullShare} f : sProp 𝕄) = (tV d L).loc cc0_scratch1 ↦{fullShare} f := rfl
omit [FloatOps F] in
theorem pts_oS (f : Buf (Elt F) ((tV d L).loc cc0_scratch2)) :
    ((oS).view.loc (tV d L) ↦{fullShare} f : sProp 𝕄) = (tV d L).loc cc0_scratch2 ↦{fullShare} f := rfl
omit [FloatOps F] in
theorem pts_xS_access (f : Buf (Elt F) ((tV d L).loc cc0_scratch1)) :
    (((xS).access (.whole S64x512)).loc (tV d L) ↦[Finset.univ]{fullShare} f : sProp 𝕄) = (xS).view.loc (tV d L) ↦{fullShare} f := rfl
omit [FloatOps F] in
theorem pts_oS_access (f : Buf (Elt F) ((tV d L).loc cc0_scratch2)) :
    (((oS).access (.whole S64x512)).loc (tV d L) ↦[((oS).access (.whole S64x512)).set]{fullShare} f : sProp 𝕄)
      = (oS).view.loc (tV d L) ↦{fullShare} f := by
  rw [show ((oS).access (.whole S64x512)).set = Finset.univ from (View.set_slice_whole _ _).trans (Rect.set_whole _)]

/-! ## The innermost loop: one channel a trip -/

/-- Before channel `c` of chunk `j`: the pixels and the part of the row stored so far. -/
def inv3 (dv : S512.Idx → F .f32) (rv f₀ : S64x512.Idx → F .f32) (j : ℕ) (c : Nat) (_ : PUnit) : sProp 𝕄 :=
  iprop(((xS).view.loc (tV d L) ↦{fullShare} rv) ∗ (oS).view.loc (tV d L) ↦{fullShare} partRow dv rv f₀ j c)

/-- What the scatter leaves in the third scratch. -/
theorem stored (dv : S512.Idx → F .f32) (rv f₀ : S64x512.Idx → F .f32) (j : Fin k0_t2_loop.trips) (c : Fin k0_t3_loop.trips)
    (v43 : S16.Idx → F .f32)
    (h43 : ∀ x : S16.Idx, v43 x = dv (ix1 ⟨16 * j.val + (x 0).val, by
      have := lt_of_lt_of_eq j.isLt trips2; have : (x 0).val < 16 := (x 0).isLt; omega⟩))
    (hA : ∀ a x, ((![broadcast S16 (Scf.iv 0#32 1#32 c), k0_pay4 (k0_pay1 j) v43] : Fin 2 → IVec S16 32) a x).toNat < S64x512.size a)
    (hB : ∀ a x, ((![broadcast S16 (Scf.iv 0#32 1#32 c), k0_pay5 (k0_pay4 (k0_pay1 j) v43)] : Fin 2 → IVec S16 32) a x).toNat < S64x512.size a)
    (hW : ∀ a x, ((![broadcast S16 (Scf.iv 0#32 1#32 c), k0_pay1 j] : Fin 2 → IVec S16 32) a x).toNat < S64x512.size a) :
    ((oS).access (.whole S64x512)).write (Elt F) (partRow dv rv f₀ j.val c.val)
        (storeIdx (F := F) (s := S64x512) (e := .f32) (d := ![16])
          (((oS).access (.whole S64x512)).read (Elt F) (partRow dv rv f₀ j.val c.val)) ![broadcast S16 (Scf.iv 0#32 1#32 c), k0_pay1 j]
          (k0_pay6 (k0_pay1 j) v43
            (loadIdx (F := F) (s := S64x512) (e := .f32) (((xS).access (.whole S64x512)).read (Elt F) rv) ![broadcast S16 (Scf.iv 0#32 1#32 c), k0_pay4 (k0_pay1 j) v43] hA)
            (loadIdx (F := F) (s := S64x512) (e := .f32) (((xS).access (.whole S64x512)).read (Elt F) rv) ![broadcast S16 (Scf.iv 0#32 1#32 c), k0_pay5 (k0_pay4 (k0_pay1 j) v43)] hB))
          (fun _ => 1#1) false hW) Finset.univ
      = partRow dv rv f₀ j.val (c.val + 1) := by
  rw [show ((oS).access (.whole S64x512)).read (Elt F) (partRow dv rv f₀ j.val c.val) = partRow dv rv f₀ j.val c.val from
      Memref.read_access_whole (Elt F) (cc0_scratch2 : Ref sig .scVector) _,
    show ((xS).access (.whole S64x512)).read (Elt F) rv = rv from Memref.read_access_whole (Elt F) (cc0_scratch1 : Ref sig .scVector) _]
  refine (Memref.write_access_whole_univ (Elt F) (cc0_scratch2 : Ref sig .scVector) _ _).trans ?_
  exact store_partRow dv rv f₀ j c v43 h43 hA hB hW

set_option maxHeartbeats 4000000 in
/-- One channel: the two gathers at the chunk's sixteen columns, the blend, the scatter. -/
theorem chan_body (dv : S512.Idx → F .f32) (rv f₀ : S64x512.Idx → F .f32) (j : Fin k0_t2_loop.trips) (v43 : S16.Idx → F .f32)
    (h43 : ∀ x : S16.Idx, v43 x = dv (ix1 ⟨16 * j.val + (x 0).val, by
      have := lt_of_lt_of_eq j.isLt trips2; have : (x 0).val < 16 := (x 0).isLt; omega⟩)) (c : Fin k0_t3_loop.trips) :
    inv3 d L dv rv f₀ j.val c.val ⟨⟩
      ⊢ wp frame (wpE (defs₀ (F := F)) 𝒱₀ (tV d L) none) Set.univ
          (k0_t3_body L xW (Memref.isWhole_whole _) dW (Memref.isWhole_whole _) oW (Memref.isWhole_whole _)
            dS (Memref.isWhole_whole _) xS (Memref.isWhole_whole _) oS (Memref.isWhole_whole _) cc0_scoped0 cc0_scoped1 cc0_scoped2
            (k0_pay1 j) v43 (k0_pay4 (k0_pay1 j) v43) (k0_pay5 (k0_pay4 (k0_pay1 j) v43)) c ⟨⟩)
          fun _ => inv3 d L dv rv f₀ j.val (c.val + 1) ⟨⟩ := by
  unfold inv3 k0_t3_body
  simp only [Prog.lift, Prog.bind_op, Prog.bind_ret, Prog.pure_eq_ret]
  iintro ⟨Hx, Ho⟩
  rw [wp_assume_of _ _ _ _ (chk j c v43)]
  iapply (SparseCore.wp_vectorLoadIdx 𝒱₀ (tV d L) none Set.univ (base := xS) (S := Finset.univ) (q := fullShare) (Finset.subset_univ _)) $$ Hx
  iintro Hx
  iapply (SparseCore.wp_vectorLoadIdx 𝒱₀ (tV d L) none Set.univ (base := xS) (S := Finset.univ) (q := fullShare) (Finset.subset_univ _)) $$ Hx
  iintro Hx
  ihave Ho' := (Entails.of_eq (pts_oS_access (F := F) d L _).symm) $$ Ho
  iapply (SparseCore.wp_vectorStoreIdx 𝒱₀ (tV d L) none Set.univ (base := oS)) $$ Ho'
  iintro Ho
  ihave Ho' := (Entails.of_eq (pts_oS_access (F := F) d L _)) $$ Ho
  rw [wp_ret]; imodintro
  isplitl [Hx]; · iexact Hx
  iapply (Entails.of_eq (congrArg (fun f => ((oS).view.loc (tV d L) ↦{fullShare} f : sProp 𝕄)) (stored dv rv f₀ j c v43 h43 _ _ _)))
  iexact Ho'

/-! ## The loop over a row's chunks -/

/-- Before chunk `j`: the row's displacements, its pixels, and the part of the warped row stored so far. -/
def inv2 (dv : S512.Idx → F .f32) (rv f₀ : S64x512.Idx → F .f32) (j : Nat) (_ : PUnit) : sProp 𝕄 :=
  iprop(((dS).view.loc (tV d L) ↦{fullShare} dv) ∗ ((xS).view.loc (tV d L) ↦{fullShare} rv)
    ∗ (oS).view.loc (tV d L) ↦{fullShare} partRow dv rv f₀ j 0)

set_option maxHeartbeats 4000000 in
/-- One chunk: its sixteen displacements loaded, then its 64 channels. -/
theorem chunk_body (dv : S512.Idx → F .f32) (rv f₀ : S64x512.Idx → F .f32) (j : Fin k0_t2_loop.trips) :
    inv2 d L dv rv f₀ j.val ⟨⟩
      ⊢ wp frame (wpE (defs₀ (F := F)) 𝒱₀ (tV d L) none) Set.univ
          (k0_t2_body L xW (Memref.isWhole_whole _) dW (Memref.isWhole_whole _) oW (Memref.isWhole_whole _)
            dS (Memref.isWhole_whole _) xS (Memref.isWhole_whole _) oS (Memref.isWhole_whole _) cc0_scoped0 cc0_scoped1 cc0_scoped2 j ⟨⟩)
          fun _ => inv2 d L dv rv f₀ (j.val + 1) ⟨⟩ := by
  unfold inv2 k0_t2_body
  simp only [Prog.lift, Prog.bind_op, Prog.bind_ret, Prog.pure_eq_ret]
  iintro ⟨Hd, Hx, Ho⟩
  iapply (wp_load 𝒱₀ (tV d L) none Set.univ (m := (dS : Memref sig .scVector .vmem S512 .f32)) (S := Finset.univ) (Finset.subset_univ _)) $$ Hd
  iintro Hd
  have h43 := fun x h => read_chunk (F := F) j dv x h
  sl_for (inv3 d L dv rv f₀ j.val) $$ [Hx Ho]
  case region =>
    intro c _
    exact chan_body d L dv rv f₀ j _ (fun x => h43 x _) c
  · unfold inv3
    isplitl [Hx]; · iexact Hx
    iexact Ho
  iintro %_ HI
  unfold inv3
  icases HI with ⟨Hx, Ho⟩
  sl_step
  isplitl [Hd]; · iexact Hd
  isplitl [Hx]; · iexact Hx
  iapply (Entails.of_eq (congrArg (fun f => ((oS).view.loc (tV d L) ↦{fullShare} f : sProp 𝕄))
    ((congrArg (partRow dv rv f₀ j.val) (show Scf.trips k0_t3_loop.lb k0_t3_loop.ub k0_t3_loop.st = 64 from trips3)).trans (partRow_chunk dv rv f₀ j.val))))
  iexact Ho

/-! ## The loop over the subcore's rows -/

instance (i : grid0.Coords) (k : Fin k0_t1_loop.trips) : ClosedOff (k0_off1 i k) := ⟨_, off1_eq i k⟩
instance (i : grid0.Coords) (k : Fin k0_t1_loop.trips) : ClosedOff (k0_off2 i k) := ⟨_, off2_eq i k⟩

/-- The result before trip `k`: the warped picture on the rows done, what it held at launch on the others. -/
def stage (k : ℕ) : S4x64x131072.Idx → F .f32 := fun x => if rowIx x < rowOf L k then warped (pic m d) (disp m d) x else m (oLoc d) x

/-- No row is done before the first trip, all are after the last. -/
theorem stage_zero : ∀ x ∈ tileSet L, m (oLoc d) x = stage m d L 0 x := fun _ hx => (if_neg (row_ge hx)).symm
theorem stage_end : ∀ x ∈ tileSet L, stage m d L (Scf.trips k0_t1_loop.lb k0_t1_loop.ub k0_t1_loop.st) x = warped (pic m d) (disp m d) x := fun x hx => by
  rw [show Scf.trips k0_t1_loop.lb k0_t1_loop.ub k0_t1_loop.st = 32 from trips1]
  exact if_pos (row_done hx)

/-- A trip does its row, and nothing else. -/
theorem row_stage (k : Fin k0_t1_loop.trips) : ∀ x ∈ rowSet (rowOf L k),
    (oWin L k).view.write (Elt F) (stage m d L k.val)
        (slabOut (dispRow (disp m d) (rowOf L k) (row_lt L k)) (slabRow (pic m d) (rowOf L k) (row_lt L k))) Finset.univ x
      = stage m d L (k.val + 1) x := fun x hx => by
  rw [mem_rowSet] at hx
  rw [write_oWin L k _ _ x hx, stage, if_pos (by rw [hx]; unfold rowOf; omega)]
  have e : ∀ (p : ℕ) (h : p < 1024) (h' : rowIx x < 1024), rowIx x = p →
      slabOut (dispRow (disp m d) p h) (slabRow (pic m d) p h) = slabOut (dispRow (disp m d) (rowIx x) h') (slabRow (pic m d) (rowIx x) h') := by
    intro p h h' hp; subst hp; rfl
  exact congrFun (e _ _ _ hx) _
theorem rest_stage (k : Fin k0_t1_loop.trips) : ∀ x ∈ tileSet L \ rowSet (rowOf L k), stage m d L k.val x = stage m d L (k.val + 1) x := fun x hx => by
  have hn : rowIx x ≠ rowOf L k := fun e => (Finset.mem_sdiff.mp hx).2 (mem_rowSet.mpr e)
  unfold stage
  refine if_congr ?_ rfl rfl
  unfold rowOf at hn ⊢
  omega

/-- Before trip `k`. -/
def inv1 (O : CellTallies nD τ sig (HIx 1)) (W : Waits sig (HIx 1)) (k : Nat) (_ : PUnit) : sProp 𝕄 :=
  iprop(Transfers.MayWaits (tV d L) (none : HIx 1) O
    ∗ ((xW).view.loc (tV d L) ↦{tq L} pic m d) ∗ ((dW).view.loc (tV d L) ↦{tq L} disp m d)
    ∗ (oLoc d ↦[tileSet L]{fullShare} stage m d L k)
    ∗ (∃ f, (dS).view.loc (tV d L) ↦{fullShare} f) ∗ (∃ f, (xS).view.loc (tV d L) ↦{fullShare} f) ∗ (∃ f, (oS).view.loc (tV d L) ↦{fullShare} f)
    ∗ semVal (cell0 d L) 0 ∗ semVal (cell1 d L) 0 ∗ semVal (cell2 d L) 0
    ∗ ∃ W', ⌜∀ p ∈ W', p ∈ W ∨ p.2 = none⌝ ∗ owes (tV d L) O W')

set_option maxHeartbeats 4000000 in
/-- One row: its displacements and its pixels fetched, the warped row computed, and written out. -/
theorem row_body (O : CellTallies nD τ sig (HIx 1)) (W : Waits sig (HIx 1)) (k : Fin k0_t1_loop.trips) (v1 : BitVec 32) :
    inv1 m d L O W k.val ⟨⟩
      ⊢ wp frame (wpE (defs₀ (F := F)) 𝒱₀ (tV d L) none) Set.univ
          (k0_t1_body L xW (Memref.isWhole_whole _) dW (Memref.isWhole_whole _) oW (Memref.isWhole_whole _)
            dS (Memref.isWhole_whole _) xS (Memref.isWhole_whole _) oS (Memref.isWhole_whole _) cc0_scoped0 cc0_scoped1 cc0_scoped2 v1 k ⟨⟩)
          fun _ => inv1 m d L O W (k.val + 1) ⟨⟩ := by
  unfold k0_t1_body
  simp only [k0_part1_eq_skeleton]; unfold k0_part1_skel inv1
  iintro ⟨Hmw, Hx, Hd, Ho, ⟨%fd, Hds⟩, ⟨%fx, Hxs⟩, ⟨%fo, Hos⟩, Hc0, Hc1, Hc2, %W', %hW', HO⟩
  ihave Hos' := (pointsTo_split_subset (q := fullShare) (f := stage m d L k.val) (rowSet_subset L (trip_lt k))).1 $$ Ho
  icases Hos' with ⟨Hor, Hoo⟩
  ihave Hor' := (Entails.of_eq (pts_oWin (F := F) d L k _).symm) $$ Hor
  sl_exec (disch := exact View.amount_pos _ _ (show 0 < S512.numel by decide))
  -- the two scratches hold the row's displacements and its pixels
  ihave Hds := (Entails.of_eq (congrArg (fun f => ((dS).view.loc (tV d L) ↦{fullShare} f : sProp 𝕄))
    (show View.write (Elt F) (dS).view fd (row_body.sl.dma0 m d L k) Finset.univ = dispRow (disp m d) (rowOf L k) (row_lt L k) from
      (View.write_whole_univ (Val := Elt F) (cc0_scratch0 : Ref sig .scVector) fd _).trans (read_dWin (F := F) L k (disp m d))))) $$ Hds
  ihave Hxs := (Entails.of_eq (congrArg (fun f => ((xS).view.loc (tV d L) ↦{fullShare} f : sProp 𝕄))
    (show View.write (Elt F) (xS).view fx (row_body.sl.dma0_1 m d L k) Finset.univ = slabRow (pic m d) (rowOf L k) (row_lt L k) from
      (View.write_whole_univ (Val := Elt F) (cc0_scratch1 : Ref sig .scVector) fx _).trans (read_xWin (F := F) L k (pic m d))))) $$ Hxs
  sl_for (inv2 d L (dispRow (disp m d) (rowOf L k) (row_lt L k)) (slabRow (pic m d) (rowOf L k) (row_lt L k)) fo) $$ [Hds Hxs Hos]
  case region =>
    intro j _
    exact chunk_body d L _ _ fo j
  · unfold inv2
    isplitl [Hds]; · iexact Hds
    isplitl [Hxs]; · iexact Hxs
    iapply (Entails.of_eq (congrArg (fun f => ((oS).view.loc (tV d L) ↦{fullShare} f : sProp 𝕄)) (partRow_start _ _ fo).symm))
    iexact Hos
  iintro %_ HI
  unfold inv2
  icases HI with ⟨Hds, Hxs, Hos⟩
  sl_exec (disch := exact View.amount_pos _ _ (show 0 < S64x512.numel by decide))
  -- the row written, at the next stage; so are the other elements, which hold what they did
  ihave Hor := (Entails.of_eq ((congrArg (fun f => ((oWin L k).view.loc (tV d L) ↦[(oWin L k).view.set]{fullShare} f : sProp 𝕄))
      (show (oWin L k).view.writes (Elt F) (stage m d L k.val) [⟨Rect.whole S64x512, row_body.sl.dma0_2 m d L k fo⟩]
          = (oWin L k).view.write (Elt F) (stage m d L k.val) (slabOut (dispRow (disp m d) (rowOf L k) (row_lt L k)) (slabRow (pic m d) (rowOf L k) (row_lt L k))) Finset.univ from
        (View.write_univ_eq_writes_whole (Val := Elt F) (oWin L k).view (stage m d L k.val) [] _).symm.trans (congrArg (fun w => (oWin L k).view.write (Elt F) (stage m d L k.val) w Finset.univ)
          ((congrArg (fun n => partRow (dispRow (disp m d) (rowOf L k) (row_lt L k)) (slabRow (pic m d) (rowOf L k) (row_lt L k)) fo n 0)
            (show Scf.trips k0_t2_loop.lb k0_t2_loop.ub k0_t2_loop.st = 32 from trips2)).trans (partRow_end _ _ fo))))).trans
    ((pts_oWin (F := F) d L k _).trans (pointsTo_congr (row_stage m d L k))))) $$ Hor'
  ihave Hoo := (Entails.of_eq (pointsTo_congr (rest_stage m d L k))) $$ Hoo
  ihave Ho := (pointsTo_split_subset (ℓ := oLoc d) (q := fullShare) (f := stage m d L (k.val + 1)) (rowSet_subset L (trip_lt k))).2 $$ [Hor Hoo]
  · isplitl [Hor] <;> iassumption
  sl_step
  isplitl [Hmw]; · iexact Hmw
  isplitl [Hx]; · iexact Hx
  isplitl [Hd]; · iexact Hd
  isplitl [Ho]; · iexact Ho
  isplitl [Hds]; · iexists _; iexact Hds
  isplitl [Hxs]; · iexists _; iexact Hxs
  isplitl [Hos]; · iexists _; iexact Hos
  isplitl [Hc0]; · iexact Hc0
  isplitl [Hc1]; · iexact Hc1
  isplitl [Hc2]; · iexact Hc2
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

set_option maxHeartbeats 4000000 in
/-- The kernel on the subcore at `L`: from what the call hands it, to what it brings back. -/
theorem tile_body (hF : (K (F := F)).Facts) (O : CellTallies nD τ sig (HIx 1)) (W : Waits sig (HIx 1)) (hO : ∀ g, O g none = 0) :
    iprop(levAts (K (F := F)).L (K (F := F)).lev ∗ emp ∗ goT m d L
        ∗ scopedBufs (tV d L) ∗ scopedSems0 (tV d L) ∗ owes (tV d L) O W)
      ⊢ wp frame (wpE (defs₀ (F := F)) 𝒱₀ (tV d L) none) Set.univ
          (cc0_warp L xW (Memref.isWhole_whole _) dW (Memref.isWhole_whole _) oW (Memref.isWhole_whole _)
            dS (Memref.isWhole_whole _) xS (Memref.isWhole_whole _) oS (Memref.isWhole_whole _) cc0_scoped0 cc0_scoped1 cc0_scoped2)
          fun _ => iprop(tdT m d L ∗ scopedBufs (tV d L) ∗ scopedSems0 (tV d L)
            ∗ ∃ W', ⌜∀ p ∈ W', p ∈ W ∨ p.2 = none⌝ ∗ owes (tV d L) O W') := by
  simp only [cc0_warp_eq_skeleton]; unfold cc0_warp_skel
  extract_lets _ _ _ v1
  rw [(K (F := F)).scopedBufs_V hF d (cV L) (jV L), SparseCore.Cfg.scopedSems0_V (Val := Elt F) d (cV L) (jV L), ownSems0_V, ownBufs_V]
  unfold goT tdT
  iintro ⟨#Hlv, -, ⟨Hx, Hd, Ho⟩, ⟨Hds, Hxs, Hos, Hbufs⟩, ⟨Hc0, Hc1, Hc2, Hsems⟩, HO⟩
  ihave Hmw := (show levAts (K (F := F)).L (K (F := F)).lev ⊢ Transfers.MayWaits (tV d L) (default : HIx 1) O from
    (K (F := F)).mayWaits_none (thr := tV d L) hO) $$ Hlv
  sl_for (inv1 m d L O W) $$ [Hmw Hx Hd Ho Hds Hxs Hos Hc0 Hc1 Hc2 HO]
  case region =>
    intro k _
    exact row_body m d L O W k _
  · unfold inv1
    isplitl [Hmw]; · iexact Hmw
    isplitl [Hx]; · iexact Hx
    isplitl [Hd]; · iexact Hd
    isplitl [Ho]; · iapply (Entails.of_eq (pointsTo_congr (stage_zero m d L))); iexact Ho
    isplitl [Hds]; · iexact Hds
    isplitl [Hxs]; · iexact Hxs
    isplitl [Hos]; · iexact Hos
    isplitl [Hc0]; · iexact Hc0
    isplitl [Hc1]; · iexact Hc1
    isplitl [Hc2]; · iexact Hc2
    iexists W; isplitr
    · ipureintro; exact fun p hp => .inl hp
    · iexact HO
  iintro %_ HI
  unfold inv1
  icases HI with ⟨-, Hx, Hd, Ho, Hds, Hxs, Hos, Hc0, Hc1, Hc2, %W', %hW', HO⟩
  sl_step
  isplitl [Hx Hd Ho]
  · isplitl [Hx]; · iexact Hx
    isplitl [Hd]; · iexact Hd
    iapply (Entails.of_eq (pointsTo_congr (stage_end m d L))); iexact Ho
  isplitl [Hds Hxs Hos Hbufs]
  · isplitl [Hds]; · iexact Hds
    isplitl [Hxs]; · iexact Hxs
    isplitl [Hos]; · iexact Hos
    iexact Hbufs
  isplitl [Hc0 Hc1 Hc2 Hsems]
  · isplitl [Hc0]; · iexact Hc0
    isplitl [Hc1]; · iexact Hc1
    isplitl [Hc2]; · iexact Hc2
    iexact Hsems
  iexists W'; isplitr
  · ipureintro; exact hW'
  · iexact HO

end Cert.Proof.Warp

end
-- ==== Proof.Run.lean ====
/-
  THE PROGRAM'S RUN, over any float values: two reshapes, the SparseCore call, one reshape. The call is given, for every
  subcore, its shares of the two operands and its elements of the result; since the 32 subcores' elements are disjoint and
  make up the whole result, what comes back is the result whole, holding the warped picture. The run therefore ends with the
  warped picture, at the argument's shape, in the program's result, with the arguments as they were.
-/
module

public import proofs.«01_k».proof.Proof.Tile

@[expose] public section

noncomputable section

namespace Cert.Proof.Warp

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The operands and the result, whole and by subcore -/

section Split

variable (d : Dev nD)

/-- An array that all subcores read, whole, is one share per subcore. -/
theorem shares_all {ℓ : Loc nD τ sig} (f : Buf (Elt F) ℓ) :
    (ℓ ↦{fullShare} f : sProp 𝕄)
      = bigSep (Finset.univ : Finset (Fin 2)) fun c => bigSep (Finset.univ : Finset (Fin 16)) fun s => ℓ ↦{tq (coordsV c s)} f := by
  refine (ShareLeaves.pointsTo_leaves Finset.univ f 1 fullShare).trans (bigSep_congr fun c _ => ?_)
  exact ShareLeaves.pointsTo_leaves Finset.univ f 4 _

theorem tiles_cover : (Finset.univ : Finset (Fin 2 × Fin 16)).biUnion (fun p => tileSet (coordsV p.1 p.2)) = Finset.univ := by
  refine Finset.eq_univ_of_forall fun x => ?_
  obtain ⟨c, s, h⟩ := exists_tileSet x
  exact Finset.mem_biUnion.mpr ⟨(c, s), Finset.mem_univ _, h⟩

theorem tiles_disjoint : ∀ p ∈ (Finset.univ : Finset (Fin 2 × Fin 16)), ∀ q ∈ (Finset.univ : Finset (Fin 2 × Fin 16)), p ≠ q →
    Disjoint (tileSet (coordsV p.1 p.2)) (tileSet (coordsV q.1 q.2)) := by
  intro p _ q _ h
  refine tileSet_disjoint fun e => h ?_
  exact Prod.ext (congrFun e 0) (congrFun e 1)

/-- The result, whole, is every subcore's elements of it. -/
theorem tiles_all (f : Buf (Elt F) (oLoc d)) :
    (oLoc d ↦{fullShare} f : sProp 𝕄)
      = bigSep (Finset.univ : Finset (Fin 2)) fun c => bigSep (Finset.univ : Finset (Fin 16)) fun s =>
          oLoc d ↦[tileSet (coordsV c s)]{fullShare} f := by
  rw [← bigSep_univ_prod (fun p : Fin 2 × Fin 16 => (oLoc d ↦[tileSet (coordsV p.1 p.2)]{fullShare} f : sProp 𝕄)),
    ← pointsTo_biUnion Finset.univ (ℓ := oLoc d) (fun p : Fin 2 × Fin 16 => tileSet (coordsV p.1 p.2)) tiles_disjoint, tiles_cover]
  try rfl

/-- Both at once: the operands and the result whole, and all the subcores' parts. -/
theorem parts_all (X : Buf (Elt F) (xLoc d)) (E : Buf (Elt F) (dLoc d)) (f : Buf (Elt F) (oLoc d)) :
    (bigSep (Finset.univ : Finset (Fin 2)) fun c => bigSep (Finset.univ : Finset (Fin 16)) fun s =>
        (iprop((xLoc d ↦{tq (coordsV c s)} X) ∗ (dLoc d ↦{tq (coordsV c s)} E) ∗ oLoc d ↦[tileSet (coordsV c s)]{fullShare} f) : sProp 𝕄))
      = iprop((xLoc d ↦{fullShare} X) ∗ (dLoc d ↦{fullShare} E) ∗ oLoc d ↦{fullShare} f) := by
  simp only [bigSep_sep']
  rw [← shares_all, ← shares_all, ← tiles_all]

end Split

variable (m : (ℓ : Loc nD τ sig) → Buf (Elt F) ℓ) (ρ : Dev nD → PrngReg) [FloatOps F]

/-! ## The subcores' obligation -/

theorem defs₀_vector (c : Fin τ.nSC) (s : Fin τ.nSub) :
    defs₀ (F := F) (.scVector c s) 0 ()
      = SparseCore.onTile hcore0 hsub0 (fun c s => cc0_warp (coordsV c s)
          xW (Memref.isWhole_whole _) dW (Memref.isWhole_whole _) oW (Memref.isWhole_whole _)
          dS (Memref.isWhole_whole _) xS (Memref.isWhole_whole _) oS (Memref.isWhole_whole _) cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

/-! ## The launch element of the certificate's ghost state -/

def u₀ : UU := (initOf (K (F := F)).hsCells (K (F := F)).hsToks, 1)

omit [FloatOps F] in
theorem all_emp {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [all_emp]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), all_emp]
  iempintro

/-! ## @main on the TensorCore -/

abbrev a' : DevRef τ sig := Proc.devRef .tc (main_arg0 : Ref sig .tc)
abbrev b' : DevRef τ sig := Proc.devRef .tc (main_arg1 : Ref sig .tc)
abbrev x' : DevRef τ sig := Proc.devRef .tc (main_v0 : Ref sig .tc)
abbrev d' : DevRef τ sig := Proc.devRef .tc (main_v1 : Ref sig .tc)
abbrev o' : DevRef τ sig := Proc.devRef .tc (main_v2 : Ref sig .tc)
abbrev r' : DevRef τ sig := Proc.devRef .tc (main_v3 : Ref sig .tc)

/-- The three reshapes: of the picture, of the displacements, of the kernel's result. -/
abbrev opX : HloOp τ sig (Elt F) := StableHlo.reshape main_arg0 main_v0 rfl shapeCasts_S4x64x256x512_S4x64x131072
abbrev opD : HloOp τ sig (Elt F) := StableHlo.reshape main_arg1 main_v1 rfl shapeCasts_S4x1x256x512_S4x131072
abbrev opR : HloOp τ sig (Elt F) := StableHlo.reshape main_v2 main_v3 rfl shapeCasts_S4x64x131072_S4x64x256x512

/-- The TensorCore's arrays. -/
abbrev S6 : Finset (DevRef τ sig) := {a', b', x', d', o', r'}

omit [FloatOps F] in
theorem held_S6 (d : Dev nD) (W : Valuation τ sig (Elt F)) :
    (held (T d) S6 W : sProp 𝕄) = iprop((aLoc d ↦{fullShare} W a') ∗ (bLoc d ↦{fullShare} W b') ∗ (xLoc d ↦{fullShare} W x')
      ∗ (dLoc d ↦{fullShare} W d') ∗ (oLoc d ↦{fullShare} W o') ∗ rLoc d ↦{fullShare} W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (bLoc d ↦{fullShare} W main_arg1) ∗ (xLoc d ↦{fullShare} W main_v0)
      ∗ (dLoc d ↦{fullShare} W main_v1) ∗ (oLoc d ↦{fullShare} W main_v2) ∗ rLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- What the program's result holds at the end: the warped picture, at the argument's shape. -/
def outVal (d : Dev nD) : S4x64x256x512.Idx → F .f32 :=
  shapeCast S4x64x256x512 (warped (pic m d) (disp m d)) shapeCasts_S4x64x131072_S4x64x256x512

/-- The arrays' contents at launch, after the first and second reshape, after the call, after the last reshape. -/
def W0 (d : Dev nD) : Valuation τ sig (Elt F) := fun b => m (d, b)
def W1 (d : Dev nD) : Valuation τ sig (Elt F) := (opX (F := F)).result (W0 m d)
def W2 (d : Dev nD) : Valuation τ sig (Elt F) := (opD (F := F)).result (W1 m d)
def W3 (d : Dev nD) : Valuation τ sig (Elt F) := Function.update (W2 m d) o' (warped (pic m d) (disp m d))
def W4 (d : Dev nD) : Valuation τ sig (Elt F) := (opR (F := F)).result (W3 m d)

theorem unscoped_held (d : Dev nD) : (unscopedBufs d (fun b => m ((SparseCore.T d).loc b)) : sProp 𝕄) = held (T d) S6 (W0 m d) := by
  rw [unscopedBufs_eq, held_S6]; rfl

omit [FloatOps F] in
theorem W1_of_ne (d : Dev nD) {r : Ref sig .tc} (h : r ≠ main_v0) : W1 m d (Proc.devRef .tc r) = W0 m d (Proc.devRef .tc r) :=
  StableHlo.reshape_result_ne _ _ _ _ _ _ _ h
omit [FloatOps F] in
theorem W2_of_ne (d : Dev nD) {r : Ref sig .tc} (h : r ≠ main_v1) : W2 m d (Proc.devRef .tc r) = W1 m d (Proc.devRef .tc r) :=
  StableHlo.reshape_result_ne _ _ _ _ _ _ _ h
theorem W4_of_ne (d : Dev nD) {r : Ref sig .tc} (h : r ≠ main_v3) : W4 m d (Proc.devRef .tc r) = W3 m d (Proc.devRef .tc r) :=
  StableHlo.reshape_result_ne _ _ _ _ _ _ _ h
theorem W3_of_ne (d : Dev nD) {b : DevRef τ sig} (h : b ≠ o') : W3 m d b = W2 m d b := Function.update_of_ne h _ _

omit [FloatOps F] in
theorem W2_x (d : Dev nD) : W2 m d x' = pic m d :=
  (W2_of_ne m d (by decide)).trans (StableHlo.reshape_result _ _ _ _ _ _ _)
omit [FloatOps F] in
theorem W2_d (d : Dev nD) : W2 m d d' = disp m d := by
  refine (StableHlo.reshape_result _ _ _ _ _ _ _).trans ?_
  rw [W1_of_ne m d (by decide)]; rfl
omit [FloatOps F] in
theorem W2_o (d : Dev nD) : W2 m d o' = m (oLoc d) := (W2_of_ne m d (by decide)).trans (W1_of_ne m d (by decide))

theorem W3_x (d : Dev nD) : W3 m d x' = pic m d := (W3_of_ne m d (by decide)).trans (W2_x m d)
theorem W3_d (d : Dev nD) : W3 m d d' = disp m d := (W3_of_ne m d (by decide)).trans (W2_d m d)
theorem W3_o (d : Dev nD) : W3 m d o' = warped (pic m d) (disp m d) := Function.update_self _ _ _

theorem W4_a (d : Dev nD) : W4 m d a' = m (aLoc d) :=
  (W4_of_ne m d (by decide)).trans ((W3_of_ne m d (by decide)).trans ((W2_of_ne m d (by decide)).trans (W1_of_ne m d (by decide))))
theorem W4_b (d : Dev nD) : W4 m d b' = m (bLoc d) :=
  (W4_of_ne m d (by decide)).trans ((W3_of_ne m d (by decide)).trans ((W2_of_ne m d (by decide)).trans (W1_of_ne m d (by decide))))
theorem W4_r (d : Dev nD) : W4 m d r' = outVal m d := by
  refine (StableHlo.reshape_result _ _ _ _ _ _ _).trans ?_
  rw [W3_o]; rfl

theorem st0_eq (d : Dev nD) : (bigSep Finset.univ fun c : Fin ((K (F := F)).nCore 0) => (P m).st 0 d c)
    = iprop((xLoc d ↦{fullShare} pic m d) ∗ (dLoc d ↦{fullShare} disp m d) ∗ oLoc d ↦{fullShare} m (oLoc d)) :=
  parts_all d (pic m d) (disp m d) (m (oLoc d))
theorem dn0_eq (d : Dev nD) : (bigSep Finset.univ fun c : Fin ((K (F := F)).nCore 0) => (P m).dn 0 d c)
    = iprop((xLoc d ↦{fullShare} pic m d) ∗ (dLoc d ↦{fullShare} disp m d) ∗ oLoc d ↦{fullShare} warped (pic m d) (disp m d)) :=
  parts_all d (pic m d) (disp m d) (warped (pic m d) (disp m d))

theorem hX : (opX (F := F)).bufs ⊆ S6 := show ({a', x'} : Finset (DevRef τ sig)) ⊆ S6 by decide
theorem hD : (opD (F := F)).bufs ⊆ S6 := show ({b', d'} : Finset (DevRef τ sig)) ⊆ S6 by decide
theorem hR : (opR (F := F)).bufs ⊆ S6 := show ({o', r'} : Finset (DevRef τ sig)) ⊆ S6 by decide

/-- What @main leaves: the arguments as they were, the result. -/
abbrev FIN (d : Dev nD) : sProp 𝕄 :=
  iprop((aLoc d ↦{fullShare} m (aLoc d)) ∗ (bLoc d ↦{fullShare} m (bLoc d)) ∗ rLoc d ↦{fullShare} outVal m d)

/-- @main on device `d`'s TensorCore: the two reshapes, the call, the last reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opX) (S := S6) hX (V := W0 m d)) $$ [Hb Hheld]
  · isplitl [Hb]; · iexact Hb
    iexact Hheld
  iintro ⟨Hb, Hheld⟩
  rw [wp_ret]; imodintro
  iapply (wp_hlo_within 𝒱 (SparseCore.T d) none Set.univ (op := opD) (S := S6) hD (V := W1 m d)) $$ [Hb Hheld]
  · isplitl [Hb]; · iexact Hb
    iexact Hheld
  iintro ⟨Hb, Hheld⟩
  rw [wp_ret]; imodintro
  ihave Hh := (Entails.of_eq (show (held (T d) S6 ((opD (F := F)).result (W1 m d)) : sProp 𝕄) = _ from held_S6 (F := F) d (W2 m d))) $$ Hheld
  icases Hh with ⟨Ha, Hbb, Hx, Hd, Ho, Hr⟩
  rw [W2_x, W2_d, W2_o]
  iapply ((K (F := F)).wp_run (D (F := F)) 𝒱 (EH := EH) (P := P m) κ d 0) $$ [Hst Ha Hbb Hx Hd Ho Hr Hb Hts]
  isplitr; · iexact Hctx
  isplitl [Hst]; · iexact Hst
  isplitl [Hx Hd Ho]
  · rw [st0_eq]
    isplitl [Hx]; · iexact Hx
    isplitl [Hd]; · iexact Hd
    iexact Ho
  iintro ⟨Hst, Hdn⟩
  ihave Hdn' := (Entails.of_eq (dn0_eq m d)) $$ Hdn
  icases Hdn' with ⟨Hx, Hd, Ho⟩
  iapply (wp_hlo_within 𝒱 (SparseCore.T d) none Set.univ (op := opR) (S := S6) hR (V := W3 m d)) $$ [Ha Hbb Hx Hd Ho Hr Hb]
  · isplitl [Hb]; · iexact Hb
    rw [held_S6, W3_x, W3_d, W3_o, W3_of_ne m d (show a' ≠ o' by decide), W3_of_ne m d (show b' ≠ o' by decide), W3_of_ne m d (show r' ≠ o' by decide)]
    isplitl [Ha]; · iexact Ha
    isplitl [Hbb]; · iexact Hbb
    isplitl [Hx]; · iexact Hx
    isplitl [Hd]; · iexact Hd
    isplitl [Ho]; · iexact Ho
    iexact Hr
  iintro ⟨Hb, Hheld⟩
  ihave Hh := (Entails.of_eq (show (held (T d) S6 ((opR (F := F)).result (W3 m d)) : sProp 𝕄) = _ from held_S6 (F := F) d (W4 m d))) $$ Hheld
  rw [W4_a, W4_b, W4_r]
  icases Hh with ⟨Ha, Hbb, -, -, -, Hr⟩
  rw [wp_ret]; imodintro; imodintro
  isplitl [Hst]; · iexact Hst
  isplitr [Hb Hts]
  · isplitl [Ha]; · iexact Ha
    isplitl [Hbb]; · iexact Hbb
    iexact Hr
  isplitl [Hb] <;> iassumption

/-! ## The run -/

def fq (d : Dev nD) (s' : Phys nD τ sig (Elt F)) : Prop :=
  s'.mem.mem (rLoc d) = outVal m d ∧ s'.mem.mem (aLoc d) = m (aLoc d) ∧ s'.mem.mem (bLoc d) = m (bLoc d)

set_option maxRecDepth 16384 in
theorem hfin (d : Dev nD) (s' : Phys nD τ sig (Elt F)) : iprop(FIN m d ∗ SI s') ⊢ (⌜fq m d s'⌝ : sProp 𝕄) := by
  iintro ⟨⟨Ha, Hb, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := rLoc d) (I := Finset.univ) (q := fullShare) (f := outVal m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-- What the run ends in: the result at the warped picture, the arguments unchanged, every counter at zero. -/
def QC : PUnit × MemSt nD τ sig (Elt F) → Prop := fun r =>
  (∀ c : Dev nD, r.2.mem (rLoc c) = outVal m c ∧ r.2.mem (aLoc c) = m (aLoc c) ∧ r.2.mem (bLoc c) = m (bLoc c)) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Warp

end
-- ==== Proof.RefTerm.lean ====
/-
  WHAT THE REFERENCE COMPUTES, over any float values: its composed expression read at one pixel. The reference builds, for
  the whole image at once, the sampling positions (`pos`), the two clipped columns (`clipI`), the pixels at those columns
  (`takeW`: an indexed read along the last axis), and the weighted sum with a factor that is 0 outside the image. At one
  pixel each of these is the same expression of that pixel's words (`refPix`).
-/
module

public import proofs.«01_k».proof.Proof.Gen.ReferenceIdeal.Run
public import proofs.«01_k».proof.Proof.Pixel
public import Idealize.ShloMosaic.Lib.IdealHost
public import Idealize.ShloMosaic.Lib.Pipeline.Value
public import Idealize.ShloMosaic.Lib.ValueLayout

@[expose] public section

noncomputable section

namespace Cert.Proof.Warp.Ref

open Cert.ReferenceIdeal Cert.ReferenceIdeal.Gen Cert.ReferenceIdeal.Value
open Idealize.ShloMosaic Idealize.ShloMosaic.ValueIdx

variable {F : FTy → Type} [FloatOps F]

/-! ## The whole arrays -/

/-- The sampling positions: each pixel's column plus its displacement. -/
def pos (D : S4x1x256x512.Idx → F .f32) : FVec F S4x1x256x512 .f32 :=
  addf (broadcastInDim S4x1x256x512 ![0, 1, 2, 3] bcast_S1x1x256x512_S4x1x256x512_0_1_2_3
    (broadcastInDim S1x1x256x512 ![0, 1, 2, 3] bcast_S1x1x1x512_S1x1x256x512_0_1_2_3
      (shapeCast S1x1x1x512 (sitofp .f32 (iotaInDim S512 32 0)) shapeCasts_S512_S1x1x1x512))) D

/-- Words clipped to the columns `0 … 511`. -/
def clipI (v : IVec S4x1x256x512 32) : IVec S4x1x256x512 32 :=
  minsi (broadcastInDim S4x1x256x512 ![] bcast_S_S4x1x256x512 (id (constantI S_ 32 511#32)))
    (maxsi (broadcastInDim S4x1x256x512 ![] bcast_S_S4x1x256x512 (id (constantI S_ 32 0#32))) v)

/-- An array without channels, repeated over the 64 channels. -/
def up {α : Type} (f : S4x1x256x512.Idx → α) : S4x64x256x512.Idx → α :=
  broadcastInDim S4x64x256x512 ![0, 1, 2, 3] bcast_S4x1x256x512_S4x64x256x512_0_1_2_3 f

/-- A column, counted from the end where it is negative, with an axis of size one put last. -/
def wrapI (i : IVec S4x64x256x512 32) : IVec S4x64x256x512x1 32 :=
  shapeCast S4x64x256x512x1
    (select (cmpi .slt i (broadcastInDim S4x64x256x512 ![] bcast_S_S4x64x256x512 (constantI S_ 32 0#32)))
      (addi i (broadcastInDim S4x64x256x512 ![] bcast_S_S4x64x256x512 (constantI S_ 32 512#32))) i)
    shapeCasts_S4x64x256x512_S4x64x256x512x1

/-- Whether a column is one of the image's. -/
def okW (i : IVec S4x64x256x512 32) : IVec S4x64x256x512x1 1 :=
  andi (cmpi .sge (wrapI i) (broadcastInDim S4x64x256x512x1 ![] bcast_S_S4x64x256x512x1 (constantI S_ 32 0#32)))
    (cmpi .sle (wrapI i) (broadcastInDim S4x64x256x512x1 ![0, 1, 2, 3, 4] bcast_S1x1x1x1x1_S4x64x256x512x1_0_1_2_3_4
      (broadcastInDim S1x1x1x1x1 ![4] bcast_S1_S1x1x1x1x1_4 (constantI S1 32 511#32))))

/-- The pixels at the columns `i`. -/
def takeW (R : S4x64x256x512.Idx → F .f32) (i : IVec S4x64x256x512 32) : FVec F S4x64x256x512 .f32 :=
  select (Host.reduce IntOp.andi (okW i) (constantI S_ 1 1#1) reducesTo_S4x64x256x512x1_S4x64x256x512_d4 h_S_)
    (Host.gather gather_S4x64x256x512_S4x64x256x512x1_S4x64x256x512_n_3_012_012_3_4_1111 R (wrapI i))
    (broadcastInDim S4x64x256x512 ![] bcast_S_S4x64x256x512 (constant S_ .f32 0x7FC00000#32))

def one1 : FVec F S4x1x256x512 .f32 := broadcastInDim S4x1x256x512 ![] bcast_S_S4x1x256x512 (constant S_ .f32 0x3F800000#32)

/-- The reference's result. -/
def refOut (R : S4x64x256x512.Idx → F .f32) (D : S4x1x256x512.Idx → F .f32) : FVec F S4x64x256x512 .f32 :=
  addf (mulf
    (subf (broadcastInDim S4x64x256x512 ![] bcast_S_S4x64x256x512 (constant S_ .f32 0x3F800000#32))
      (addf (uitofp .f32 (cmpf .olt (up (pos D)) (broadcastInDim S4x64x256x512 ![] bcast_S_S4x64x256x512 (constant S_ .f32 0x00000000#32))))
        (uitofp .f32 (cmpf .ogt (up (pos D)) (broadcastInDim S4x64x256x512 ![] bcast_S_S4x64x256x512 (constant S_ .f32 0x43FF8000#32))))))
    (addf (mulf (up (subf (addf (Host.floor (pos D)) one1) (pos D))) (takeW R (up (clipI (fptosi 32 (Host.floor (pos D)))))))
      (mulf (up (subf (pos D) (Host.floor (pos D)))) (takeW R (up (clipI (fptosi 32 (addf (Host.floor (pos D)) one1))))))))
    (broadcastInDim S4x64x256x512 ![] bcast_S_S4x64x256x512 (constant S_ .f32 0x00000000#32))

set_option maxRecDepth 8192 in
/-- The run's composed term is that expression of the two arguments. -/
theorem res_eq (m : (ℓ : Loc nD τ sig) → Buf (Elt F) ℓ) (c : Dev nD) :
    res_main_v35 m c = refOut (F := F) (m ((c.tc : Thread nD τ).loc main_arg0)) (m ((c.tc : Thread nD τ).loc main_arg1)) := by
  unfold res_main_v35 refOut takeW okW wrapI up clipI one1 pos; rfl

/-! ## Read at one pixel -/

/-- A pixel without its channel. -/
def flat (x : S4x64x256x512.Idx) : S4x1x256x512.Idx := ix4 (x 0) 0 (x 2) (x 3)

theorem up_apply {α : Type} (f : S4x1x256x512.Idx → α) (x : S4x64x256x512.Idx) : up f x = f (flat x) := by
  unfold up
  refine broadcastInDim_apply _ _ _ _ _ fun a => ?_
  match a with
  | ⟨0, _⟩ => rfl
  | ⟨1, _⟩ => rfl
  | ⟨2, _⟩ => rfl
  | ⟨3, _⟩ => rfl

/-- The sampling position of a pixel in column `w` with displacement `d`. -/
def posAt (w : BitVec 32) (d : F .f32) : F .f32 := FloatOps.addf (FloatOps.sitofp .f32 w) d

theorem pos_apply (D : S4x1x256x512.Idx → F .f32) (k : S4x1x256x512.Idx) : pos D k = posAt (BitVec.ofNat 32 (k 3).val) (D k) := by
  unfold pos posAt
  refine congrArg (fun z => FloatOps.addf z (D k)) ?_
  rw [broadcastInDim_apply _ _ _ k (ix4 0 0 (k 2) (k 3) : S1x1x256x512.Idx) (fun a => match a with
      | ⟨0, _⟩ => rfl | ⟨1, _⟩ => rfl | ⟨2, _⟩ => rfl | ⟨3, _⟩ => rfl),
    broadcastInDim_apply _ _ _ _ (ix4 0 0 0 (k 3) : S1x1x1x512.Idx) (fun a => match a with
      | ⟨0, _⟩ => rfl | ⟨1, _⟩ => rfl | ⟨2, _⟩ => rfl | ⟨3, _⟩ => rfl)]
  unfold shapeCast
  have e : Shape.reshapeEquiv shapeCasts_S512_S1x1x1x512 (ix4 0 0 0 (k 3) : S1x1x1x512.Idx) = (ix1 (k 3) : S512.Idx) :=
    Shape.reshapeEquiv_eq_of_rowMajor _ (by
      rw [Shape.rowMajor_val_one, Shape.rowMajor_val_four]
      show (k 3).val = ((0 * 1 + 0) * 1 + 0) * 512 + (k 3).val
      omega)
  exact congrArg (sitofp .f32 (iotaInDim S512 32 0)) e

/-- A word clipped to the columns. -/
def clipW (z : BitVec 32) : BitVec 32 := IntOp.minsi 511#32 (IntOp.maxsi 0#32 z)

theorem clipW_lt (z : BitVec 32) : (clipW z).toNat < 512 := clip_lt z

theorem clipI_apply (v : IVec S4x1x256x512 32) (k : S4x1x256x512.Idx) : clipI v k = clipW (v k) := rfl

/-- A pixel with the last, single coordinate. -/
def one (x : S4x64x256x512.Idx) : S4x64x256x512x1.Idx := fun a => match a with
  | ⟨0, _⟩ => x 0 | ⟨1, _⟩ => x 1 | ⟨2, _⟩ => x 2 | ⟨3, _⟩ => x 3 | ⟨4, _⟩ => ⟨0, Nat.one_pos⟩

/-- A column of the image is not negative, so it stays. -/
theorem wrapI_apply (i : IVec S4x64x256x512 32) (hi : ∀ x, (i x).toNat < 512) (y : S4x64x256x512x1.Idx) :
    wrapI i y = i (ix4 (y 0) (y 1) (y 2) (y 3)) := by
  have h4 : (y 4).val < 1 := (y 4).isLt
  have e : Shape.reshapeEquiv shapeCasts_S4x64x256x512_S4x64x256x512x1 y = (ix4 (y 0) (y 1) (y 2) (y 3) : S4x64x256x512.Idx) :=
    Shape.reshapeEquiv_eq_of_rowMajor _ (by
      rw [Shape.rowMajor_val_four, Shape.rowMajor_val_five]
      show (((y 0).val * 64 + (y 1).val) * 256 + (y 2).val) * 512 + (y 3).val
        = ((((y 0).val * 64 + (y 1).val) * 256 + (y 2).val) * 512 + (y 3).val) * 1 + (y 4).val
      omega)
  unfold wrapI
  refine (congrArg (select _ _ _) e).trans ?_
  set z := (ix4 (y 0) (y 1) (y 2) (y 3) : S4x64x256x512.Idx)
  have hz := hi z
  have hn : IntOp.cmpi .slt (i z) 0#32 = 0#1 := by
    have h0 : (0#32 : BitVec 32).toInt = 0 := by decide
    have hs : (i z).toInt = ((i z).toNat : ℤ) := BitVec.toInt_eq_toNat_of_lt (by omega)
    have : (i z).slt 0#32 = false := by
      rw [Bool.eq_false_iff, ne_eq, BitVec.slt_iff_toInt_lt, h0, hs]; omega
    simp only [IntOp.cmpi, this]; rfl
  show Scalar.select (IntOp.cmpi .slt (i z) 0#32) _ _ = _
  rw [hn]; rfl

/-- And it is in bounds. -/
theorem okW_apply (i : IVec S4x64x256x512 32) (hi : ∀ x, (i x).toNat < 512) (y : S4x64x256x512x1.Idx) : okW i y = 1#1 := by
  have e := wrapI_apply i hi y
  have hz := hi (ix4 (y 0) (y 1) (y 2) (y 3))
  rw [← e] at hz
  show IntOp.andi (IntOp.cmpi .sge (wrapI i y) 0#32) (IntOp.cmpi .sle (wrapI i y) 511#32) = 1#1
  generalize wrapI i y = z at hz ⊢
  have h0 : (0#32 : BitVec 32).toInt = 0 := by decide
  have h1 : (511#32 : BitVec 32).toInt = 511 := by decide
  have hs : z.toInt = (z.toNat : ℤ) := BitVec.toInt_eq_toNat_of_lt (by omega)
  have ha : (0#32).sle z = true := by rw [BitVec.sle_iff_toInt_le, h0, hs]; omega
  have hb : z.sle 511#32 = true := by rw [BitVec.sle_iff_toInt_le, h1, hs]; omega
  simp only [IntOp.cmpi, ha, hb]; rfl

/-- The gather along the last axis reads, of the same channel and row, the column that the index array names. -/
theorem gather_apply (R : S4x64x256x512.Idx → F .f32) (idx : IVec S4x64x256x512x1 32) (x : S4x64x256x512.Idx) :
    Host.gather gather_S4x64x256x512_S4x64x256x512x1_S4x64x256x512_n_3_012_012_3_4_1111 R idx x
      = R (ix4 (x 0) (x 1) (x 2) ⟨min (idx (one x)).toInt.toNat 511, by omega⟩) := by
  set g := gather_S4x64x256x512_S4x64x256x512x1_S4x64x256x512_n_3_012_012_3_4_1111
  unfold Host.gather
  refine congrArg R (funext fun a => Fin.ext ?_)
  show g.start x idx a + g.batchCoord x a + g.offCoord x a = _
  have batch : ∀ b (_ : b ∈ g.operandBatchingDims), g.start x idx b + g.batchCoord x b + g.offCoord x b = g.batchCoord x b := fun b hb => by
    rw [GatherDims.start_batching _ _ _ _ hb, GatherDims.offCoord_eq_zero _ _ _ (fun h => ((GatherDims.mem_sKept _ _).mp h).2 hb)]
    omega
  have m0 : (0 : Fin 4) ∈ g.operandBatchingDims := (by decide : (0 : Fin 4) ∈ ([0, 1, 2] : List (Fin 4)))
  have m1 : (1 : Fin 4) ∈ g.operandBatchingDims := (by decide : (1 : Fin 4) ∈ ([0, 1, 2] : List (Fin 4)))
  have m2 : (2 : Fin 4) ∈ g.operandBatchingDims := (by decide : (2 : Fin 4) ∈ ([0, 1, 2] : List (Fin 4)))
  have n3 : (3 : Fin 4) ∉ g.operandBatchingDims := (by decide : (3 : Fin 4) ∉ ([0, 1, 2] : List (Fin 4)))
  have h3 : (3 : Fin 4) ∈ g.startIndexMap := List.mem_singleton.mpr rfl
  have ha : a = (0 : Fin 4) ∨ a = (1 : Fin 4) ∨ a = (2 : Fin 4) ∨ a = (3 : Fin 4) := by
    match a with
    | ⟨0, _⟩ => exact .inl rfl
    | ⟨1, _⟩ => exact .inr (.inl rfl)
    | ⟨2, _⟩ => exact .inr (.inr (.inl rfl))
    | ⟨3, _⟩ => exact .inr (.inr (.inr rfl))
  rcases ha with rfl | rfl | rfl | rfl
  · rw [batch _ m0]; unfold GatherDims.batchCoord; rw [dif_pos m0]; rfl
  · rw [batch _ m1]; unfold GatherDims.batchCoord; rw [dif_pos m1]; rfl
  · rw [batch _ m2]; unfold GatherDims.batchCoord; rw [dif_pos m2]; rfl
  · rw [GatherDims.batchCoord_eq_zero _ _ _ n3,
      GatherDims.offCoord_eq_zero _ _ _ (fun h => ((GatherDims.mem_sKept _ _).mp h).1 (List.mem_singleton.mpr rfl))]
    unfold GatherDims.start
    rw [dif_pos h3]
    have e : g.siIdx x ⟨List.idxOf (3 : Fin 4) g.startIndexMap, List.idxOf_lt_length_iff.2 h3⟩ = one x := by
      funext b; refine Fin.ext ?_
      match b with
      | ⟨0, _⟩ => rfl
      | ⟨1, _⟩ => rfl
      | ⟨2, _⟩ => rfl
      | ⟨3, _⟩ => rfl
      | ⟨4, _⟩ => rfl
    rw [e]; rfl

/-- The conjunction of bits that are all set is set. -/
theorem allSet (f : S4x64x256x512x1.Idx → BitVec 1) (hf : ∀ y, f y = 1#1) (x : S4x64x256x512.Idx) :
    Host.reduce IntOp.andi f (constantI S_ 1 1#1) reducesTo_S4x64x256x512x1_S4x64x256x512_d4 h_S_ x = 1#1 := by
  rw [Host.reduce_eq_foldl]
  generalize List.filter _ _ = l
  show l.foldl (fun r i => IntOp.andi r (f i)) 1#1 = 1#1
  induction l with
  | nil => rfl
  | cons y l ih => rw [List.foldl_cons, hf y]; exact ih

/-- The pixels at columns of the image. -/
theorem takeW_apply (R : S4x64x256x512.Idx → F .f32) (i : IVec S4x64x256x512 32) (hi : ∀ x, (i x).toNat < 512) (x : S4x64x256x512.Idx) :
    takeW R i x = R (ix4 (x 0) (x 1) (x 2) ⟨(i x).toNat, hi x⟩) := by
  unfold takeW
  show Scalar.select (Host.reduce IntOp.andi (okW i) (constantI S_ 1 1#1) reducesTo_S4x64x256x512x1_S4x64x256x512_d4 h_S_ x) _ _ = _
  rw [allSet _ (okW_apply i hi), gather_apply]
  refine congrArg R (congrArg (ix4 (x 0) (x 1) (x 2)) (Fin.ext ?_))
  have e : wrapI i (one x) = i x := by
    rw [wrapI_apply i hi]
    exact congrArg i (eq_ix4 x).symm
  have hx := hi x
  show min (wrapI i (one x)).toInt.toNat 511 = (i x).toNat
  rw [e, BitVec.toInt_eq_toNat_of_lt (by omega)]
  omega

/-- One pixel of the reference: from its sampling position `y` and the values `a`, `b` at the two columns. -/
def refPix (y a b : F .f32) : F .f32 :=
  let fl := FloatOps.hostUnary .floor y
  let c1 := Scalar.ofBits (F := F) .f32 0x3F800000#32
  let c0 := Scalar.ofBits (F := F) .f32 0x00000000#32
  let c511 := Scalar.ofBits (F := F) .f32 0x43FF8000#32
  FloatOps.addf (FloatOps.mulf
    (FloatOps.subf c1 (FloatOps.addf (FloatOps.uitofp .f32 (FloatOps.cmpf .olt y c0)) (FloatOps.uitofp .f32 (FloatOps.cmpf .ogt y c511))))
    (FloatOps.addf (FloatOps.mulf (FloatOps.subf (FloatOps.addf fl c1) y) a) (FloatOps.mulf (FloatOps.subf y fl) b))) c0

/-- The column left of the sampling position `y`, and the one after it, clipped. -/
def refA (y : F .f32) : BitVec 32 := clipW (FloatOps.fptosi 32 (FloatOps.hostUnary .floor y))
def refB (y : F .f32) : BitVec 32 :=
  clipW (FloatOps.fptosi 32 (FloatOps.addf (FloatOps.hostUnary .floor y) (Scalar.ofBits (F := F) .f32 0x3F800000#32)))

/-- The reference's result at one pixel. -/
theorem refOut_apply (R : S4x64x256x512.Idx → F .f32) (D : S4x1x256x512.Idx → F .f32) (x : S4x64x256x512.Idx) :
    refOut R D x = refPix (posAt (BitVec.ofNat 32 (x 3).val) (D (flat x)))
      (R (ix4 (x 0) (x 1) (x 2) ⟨(refA (posAt (BitVec.ofNat 32 (x 3).val) (D (flat x)))).toNat, clipW_lt _⟩))
      (R (ix4 (x 0) (x 1) (x 2) ⟨(refB (posAt (BitVec.ofNat 32 (x 3).val) (D (flat x)))).toNat, clipW_lt _⟩)) := by
  have hp : ∀ k, pos D k = posAt (BitVec.ofNat 32 (k 3).val) (D k) := pos_apply D
  have hA : ∀ z, (up (clipI (fptosi 32 (Host.floor (pos D)))) z).toNat < 512 := fun z => by
    rw [up_apply, clipI_apply]; exact clipW_lt _
  have hB : ∀ z, (up (clipI (fptosi 32 (addf (Host.floor (pos D)) one1))) z).toNat < 512 := fun z => by
    rw [up_apply, clipI_apply]; exact clipW_lt _
  have eA : up (clipI (fptosi 32 (Host.floor (pos D)))) x = refA (posAt (BitVec.ofNat 32 (x 3).val) (D (flat x))) := by
    rw [up_apply, clipI_apply]
    show clipW (FloatOps.fptosi 32 (FloatOps.hostUnary .floor (pos D (flat x)))) = _
    rw [hp]; rfl
  have eB : up (clipI (fptosi 32 (addf (Host.floor (pos D)) one1))) x = refB (posAt (BitVec.ofNat 32 (x 3).val) (D (flat x))) := by
    rw [up_apply, clipI_apply]
    show clipW (FloatOps.fptosi 32 (FloatOps.addf (FloatOps.hostUnary .floor (pos D (flat x))) _)) = _
    rw [hp]; rfl
  have tA : takeW R (up (clipI (fptosi 32 (Host.floor (pos D))))) x
      = R (ix4 (x 0) (x 1) (x 2) ⟨(refA (posAt (BitVec.ofNat 32 (x 3).val) (D (flat x)))).toNat, clipW_lt _⟩) := by
    rw [takeW_apply R _ hA]; simp only [eA]
  have tB : takeW R (up (clipI (fptosi 32 (addf (Host.floor (pos D)) one1)))) x
      = R (ix4 (x 0) (x 1) (x 2) ⟨(refB (posAt (BitVec.ofNat 32 (x 3).val) (D (flat x)))).toNat, clipW_lt _⟩) := by
    rw [takeW_apply R _ hB]; simp only [eB]
  rw [← tA, ← tB, show posAt (BitVec.ofNat 32 (x 3).val) (D (flat x)) = pos D (flat x) from (hp (flat x)).symm]
  have u : ∀ f : S4x1x256x512.Idx → F .f32, up f x = f (flat x) := fun f => up_apply f x
  unfold refOut refPix
  simp only [addf, mulf, subf, uitofp, cmpf, u]
  rfl

end Cert.Proof.Warp.Ref

end
-- ==== Proof.Equal.lean ====
/-
  THE EQUATION, over the extended reals: at every pixel the kernel and the reference give the same value. Where the sampling
  position `y` lies in `0 ≤ y ≤ 511`, the kernel's floor (cut off the fraction, take one off if that went up) is the floor,
  its two columns are the reference's two columns, and the reference's factor is 1. Everywhere else, the infinities too, both
  of the kernel's weights are 0, and so is the reference's factor.
-/
module

public import proofs.«01_k».proof.Proof.RefTerm

@[expose] public section

noncomputable section

namespace Cert.Proof.Warp

open Cert.KernelIdeal Cert.KernelIdeal.Gen Idealize.ShloMosaic Idealize.ShloMosaic.ValueIdx
open Cert.Proof.Warp.Ref (posAt clipW clipW_lt refPix refA refB)

/-! ## The constants, the words -/

theorem c511 : Ideal.ofBits .f32 0x43FF8000#32 = ((511 : ℝ) : EReal) := by
  simp [Ideal.ofBits, Ideal.ieee, -EReal.coe_mul]; norm_num

/-- A real number between `0` and `2^31 - 1`, as a word, is its floor. -/
theorem fptosi_of_mem {r : ℝ} {n : ℤ} (hn : ⌊r⌋ = n) (h0 : 0 ≤ r) (h1 : n < 1000) :
    FloatOps.fptosi (F := Ideal) (φ := .f32) 32 ((r : ℝ) : EReal) = BitVec.ofInt 32 n := by
  show Ideal.fptosi 32 ((r : ℝ) : EReal) = _
  have hp : 0 ≤ n := hn ▸ Int.floor_nonneg.mpr h0
  rw [Ideal.fptosi, Ideal.toIntClamped_coe, if_pos h0, hn]
  congr 1
  norm_num
  omega

theorem toInt_ofInt {n : ℤ} (h0 : 0 ≤ n) (h1 : n < 1000) : (BitVec.ofInt 32 n).toInt = n := by
  rw [BitVec.toInt_ofInt, Int.bmod_def]; omega

theorem toNat_ofInt {n : ℤ} (h0 : 0 ≤ n) (h1 : n < 1000) : (BitVec.ofInt 32 n).toNat = n.toNat := by
  rw [BitVec.toNat_ofInt]; omega

/-- A small number, clipped to the columns. -/
theorem clipW_ofInt {n : ℤ} (h0 : 0 ≤ n) (h1 : n < 1000) : (clipW (BitVec.ofInt 32 n)).toNat = min n.toNat 511 := by
  have e0 : (0#32 : BitVec 32).toInt = 0 := by decide
  have e1 : (511#32 : BitVec 32).toInt = 511 := by decide
  have ei := toInt_ofInt h0 h1
  have en := toNat_ofInt h0 h1
  unfold clipW IntOp.minsi IntOp.maxsi
  have hm : (if (BitVec.ofInt 32 n).slt 0#32 then 0#32 else BitVec.ofInt 32 n) = BitVec.ofInt 32 n := by
    rw [if_neg]; rw [BitVec.slt_iff_toInt_lt, ei, e0]; omega
  rw [hm]
  split_ifs with h <;> rw [BitVec.slt_iff_toInt_lt, ei, e1] at h
  · show 511 = _; omega
  · rw [en]; omega

/-! ## The kernel's pixel by its sampling position -/

section Scalar
variable {F : FTy → Type} [FloatOps F]

/-- The kernel's floor: the fraction cut off, less one where that is above. -/
def kFloor (y : F .f32) : F .f32 :=
  let t := FloatOps.sitofp .f32 (FloatOps.fptosi 32 y)
  Scalar.select (FloatOps.cmpf .ogt t y) (FloatOps.subf t (Scalar.ofBits .f32 0x3F800000#32)) t

/-- Whether the position lies on the row. -/
def inRow (y : F .f32) : BitVec 1 :=
  IntOp.andi (FloatOps.cmpf .oge y (Scalar.ofBits .f32 0x00000000#32)) (FloatOps.cmpf .ole y (Scalar.ofBits .f32 0x43FF8000#32))

theorem colA_eq (w : BitVec 32) (d : F .f32) : colA w d = clipW (FloatOps.fptosi 32 (kFloor (posAt w d))) := rfl

theorem pix_eq (w : BitVec 32) (d a b : F .f32) :
    pix w d a b = FloatOps.addf
      (FloatOps.mulf (Scalar.select (inRow (posAt w d))
        (FloatOps.subf (FloatOps.addf (kFloor (posAt w d)) (Scalar.ofBits .f32 0x3F800000#32)) (posAt w d)) (Scalar.ofBits .f32 0x00000000#32)) a)
      (FloatOps.mulf (Scalar.select (inRow (posAt w d))
        (FloatOps.subf (posAt w d) (kFloor (posAt w d))) (Scalar.ofBits .f32 0x00000000#32)) b) := rfl

end Scalar

theorem inRow_ideal (y : EReal) : inRow (F := Ideal) y = BitVec.ofBool (decide (0 ≤ y ∧ y ≤ ((511 : ℝ) : EReal))) := by
  show IntOp.andi (BitVec.ofBool (decide (Ideal.ofBits .f32 0x00000000#32 ≤ y))) (BitVec.ofBool (decide (y ≤ Ideal.ofBits .f32 0x43FF8000#32))) = _
  rw [Ideal.ofBits_zero_f32, c511]
  by_cases h0 : (0 : EReal) ≤ y <;> by_cases h1 : y ≤ ((511 : ℝ) : EReal) <;> simp [h0, h1, IntOp.andi] <;> rfl

/-! ## The equation at one pixel -/

/-- On the row the kernel's floor is the floor. -/
theorem kFloor_coe {r : ℝ} (h0 : 0 ≤ r) (h1 : r ≤ 511) : kFloor (F := Ideal) ((r : ℝ) : EReal) = ((⌊r⌋ : ℝ) : EReal) := by
  have hp : 0 ≤ ⌊r⌋ := Int.floor_nonneg.mpr h0
  have hl : ⌊r⌋ < 1000 := Int.floor_lt.mpr (by push_cast; linarith)
  unfold kFloor
  rw [fptosi_of_mem rfl h0 hl]
  have ht : FloatOps.sitofp (F := Ideal) .f32 (BitVec.ofInt 32 ⌊r⌋) = ((⌊r⌋ : ℝ) : EReal) := by
    show (((BitVec.ofInt 32 ⌊r⌋).toInt : ℝ) : EReal) = _
    rw [toInt_ofInt hp hl]
  simp only [ht]
  have hc : FloatOps.cmpf (F := Ideal) (φ := .f32) .ogt ((⌊r⌋ : ℝ) : EReal) ((r : ℝ) : EReal) = 0#1 := by
    show BitVec.ofBool (decide (((r : ℝ) : EReal) < ((⌊r⌋ : ℝ) : EReal))) = _
    rw [decide_eq_false]; · rfl
    rw [EReal.coe_lt_coe_iff, not_lt]; exact Int.floor_le r
  rw [hc]; rfl

/-- Off the row both weights are zero. -/
theorem pix_out (w : BitVec 32) (d a b : EReal) (h : ¬(0 ≤ posAt (F := Ideal) w d ∧ posAt (F := Ideal) w d ≤ ((511 : ℝ) : EReal))) :
    pix (F := Ideal) w d a b = 0 := by
  rw [pix_eq, inRow_ideal, decide_eq_false h]
  show Ideal.ofBits .f32 0x00000000#32 * a + Ideal.ofBits .f32 0x00000000#32 * b = 0
  rw [Ideal.ofBits_zero_f32, zero_mul, zero_mul, add_zero]

/-- The reference's pixel, in the extended reals' own terms. -/
theorem refPix_ideal (y a b : EReal) : refPix (F := Ideal) y a b
    = (1 - ((((BitVec.ofBool (decide (y < 0))).toNat : ℝ) : EReal) + (((BitVec.ofBool (decide (((511 : ℝ) : EReal) < y))).toNat : ℝ) : EReal)))
        * ((Ideal.liftRound Int.floor y + 1 - y) * a + (y - Ideal.liftRound Int.floor y) * b) + 0 := by
  rw [← c511, ← Ideal.ofBits_zero_f32, ← Ideal.ofBits_one_f32]; rfl

/-- Off the row the reference's factor is zero. -/
theorem refPix_out (y a b : EReal) (h : ¬(0 ≤ y ∧ y ≤ ((511 : ℝ) : EReal))) : refPix (F := Ideal) y a b = 0 := by
  have h1 : (1 : EReal) - ((1 : ℕ) : ℝ) = 0 := by
    rw [← EReal.coe_one, ← EReal.coe_sub]; norm_num
  rw [refPix_ideal]
  by_cases h0 : y < 0
  · have h5 : ¬ ((511 : ℝ) : EReal) < y := fun hc => absurd (hc.trans h0) (by
      rw [not_lt, ← EReal.coe_zero, EReal.coe_le_coe_iff]; norm_num)
    rw [decide_eq_true h0, decide_eq_false h5]
    show (1 - (((1 : ℕ) : ℝ) + ((0 : ℕ) : ℝ) : EReal)) * _ + 0 = 0
    rw [Nat.cast_zero, EReal.coe_zero, add_zero, add_zero, h1, zero_mul]
  · have h5 : ((511 : ℝ) : EReal) < y := by
      by_contra hc; exact h ⟨not_lt.mp h0, not_lt.mp hc⟩
    rw [decide_eq_true h5, decide_eq_false h0]
    show (1 - (((0 : ℕ) : ℝ) + ((1 : ℕ) : ℝ) : EReal)) * _ + 0 = 0
    rw [Nat.cast_zero, EReal.coe_zero, zero_add, h1, zero_mul, add_zero]

/-- On the row the position is a real number. -/
theorem real_of_mem {y : EReal} (h : 0 ≤ y ∧ y ≤ ((511 : ℝ) : EReal)) : ∃ r : ℝ, y = ((r : ℝ) : EReal) ∧ 0 ≤ r ∧ r ≤ 511 := by
  obtain ⟨r, rfl⟩ : ∃ r : ℝ, y = ((r : ℝ) : EReal) := by
    refine ⟨y.toReal, (EReal.coe_toReal ?_ ?_).symm⟩
    · exact fun e => absurd (e ▸ h.2) (not_le.mpr (EReal.coe_lt_top _))
    · exact fun e => absurd (e ▸ h.1) (not_le.mpr EReal.bot_lt_zero)
  exact ⟨r, rfl, EReal.coe_nonneg.mp h.1, EReal.coe_le_coe_iff.mp h.2⟩

theorem floor_mem {r : ℝ} (h0 : 0 ≤ r) (h1 : r ≤ 511) : 0 ≤ ⌊r⌋ ∧ ⌊r⌋ ≤ 511 :=
  ⟨Int.floor_nonneg.mpr h0, Int.floor_le_iff.mpr (by push_cast; linarith)⟩

/-- A small whole number, clipped to the columns as a word. -/
theorem clip_int {n : ℤ} (h0 : 0 ≤ n) (h1 : n < 1000) :
    (clipW (FloatOps.fptosi (F := Ideal) (φ := .f32) 32 ((n : ℝ) : EReal))).toNat = min n.toNat 511 := by
  rw [fptosi_of_mem (Int.floor_intCast n) (Int.cast_nonneg h0) h1, clipW_ofInt h0 h1]

/-- The floor of a real position, the next whole number. -/
theorem hostFloor_coe (r : ℝ) : FloatOps.hostUnary (F := Ideal) (φ := .f32) .floor ((r : ℝ) : EReal) = ((⌊r⌋ : ℝ) : EReal) := rfl

theorem succ_coe (n : ℤ) : FloatOps.addf (F := Ideal) (φ := .f32) ((n : ℝ) : EReal) (Scalar.ofBits .f32 0x3F800000#32) = (((n + 1 : ℤ) : ℝ) : EReal) := by
  show ((n : ℝ) : EReal) + Ideal.ofBits .f32 0x3F800000#32 = _
  rw [Ideal.ofBits_one_f32, ← EReal.coe_one, ← EReal.coe_add, Int.cast_add, Int.cast_one]

/-- On the row the kernel's and the reference's columns are the floor and its successor, clipped. -/
theorem colA_in {w : BitVec 32} {d : EReal} {r : ℝ} (hr : posAt (F := Ideal) w d = ((r : ℝ) : EReal)) (h0 : 0 ≤ r) (h1 : r ≤ 511) :
    (colA (F := Ideal) w d).toNat = ⌊r⌋.toNat := by
  obtain ⟨hp, hl⟩ := floor_mem h0 h1
  rw [colA_eq, hr, kFloor_coe h0 h1, clip_int hp (by omega)]; omega

theorem refA_in {r : ℝ} (h0 : 0 ≤ r) (h1 : r ≤ 511) : (refA (F := Ideal) ((r : ℝ) : EReal)).toNat = ⌊r⌋.toNat := by
  obtain ⟨hp, hl⟩ := floor_mem h0 h1
  unfold refA
  rw [hostFloor_coe, clip_int hp (by omega)]; omega

theorem refB_in {r : ℝ} (h0 : 0 ≤ r) (h1 : r ≤ 511) : (refB (F := Ideal) ((r : ℝ) : EReal)).toNat = min (⌊r⌋.toNat + 1) 511 := by
  obtain ⟨hp, hl⟩ := floor_mem h0 h1
  unfold refB
  rw [hostFloor_coe, succ_coe, clip_int (by omega) (by omega)]; omega

/-- On the row the kernel's weighted sum is the reference's. -/
theorem pix_in {w : BitVec 32} {d : EReal} {r : ℝ} (hr : posAt (F := Ideal) w d = ((r : ℝ) : EReal)) (h0 : 0 ≤ r) (h1 : r ≤ 511) (a b : EReal) :
    pix (F := Ideal) w d a b = refPix (F := Ideal) ((r : ℝ) : EReal) a b := by
  have p0 : (0 : EReal) ≤ ((r : ℝ) : EReal) := EReal.coe_nonneg.mpr h0
  have p1 : ((r : ℝ) : EReal) ≤ ((511 : ℝ) : EReal) := EReal.coe_le_coe_iff.mpr h1
  rw [pix_eq, hr, inRow_ideal, decide_eq_true ⟨p0, p1⟩, kFloor_coe h0 h1, refPix_ideal, decide_eq_false (not_lt.mpr p0),
    decide_eq_false (not_lt.mpr p1), Ideal.liftRound_coe]
  show (((⌊r⌋ : ℝ) : EReal) + Ideal.ofBits .f32 0x3F800000#32 - ((r : ℝ) : EReal)) * a + (((r : ℝ) : EReal) - ((⌊r⌋ : ℝ) : EReal)) * b
    = (1 - (((0 : ℕ) : ℝ) + ((0 : ℕ) : ℝ) : EReal)) * ((((⌊r⌋ : ℝ) : EReal) + 1 - ((r : ℝ) : EReal)) * a + (((r : ℝ) : EReal) - ((⌊r⌋ : ℝ) : EReal)) * b) + 0
  rw [Ideal.ofBits_one_f32, Nat.cast_zero, EReal.coe_zero, add_zero (0 : EReal), sub_zero, one_mul, add_zero]

/-- One pixel: the kernel's value is the reference's, whatever the row holds. -/
theorem pixel_eq (w : BitVec 32) (d : EReal) (row : Fin 512 → EReal) :
    pix (F := Ideal) w d (row ⟨(colA (F := Ideal) w d).toNat, colA_lt (F := Ideal) w d⟩)
        (row ⟨(colB (colA (F := Ideal) w d)).toNat, colB_lt _ (colA_lt (F := Ideal) w d)⟩)
      = refPix (F := Ideal) (posAt w d) (row ⟨(refA (F := Ideal) (posAt w d)).toNat, clipW_lt _⟩)
          (row ⟨(refB (F := Ideal) (posAt w d)).toNat, clipW_lt _⟩) := by
  by_cases h : 0 ≤ posAt (F := Ideal) w d ∧ posAt (F := Ideal) w d ≤ ((511 : ℝ) : EReal)
  swap
  · rw [pix_out w d _ _ h, refPix_out _ _ _ h]
  obtain ⟨r, hr, h0, h1⟩ := real_of_mem h
  have eA := (colA_in hr h0 h1).trans ((congrArg (fun y => (refA (F := Ideal) y).toNat) hr).trans (refA_in h0 h1)).symm
  have eB : (colB (colA (F := Ideal) w d)).toNat = (refB (F := Ideal) (posAt w d)).toNat := by
    rw [colB_toNat _ (colA_lt (F := Ideal) w d), colA_in hr h0 h1, hr, refB_in h0 h1]
  rw [pix_in hr h0 h1, ← hr]
  exact congrArg₂ (refPix (F := Ideal) _) (congrArg row (Fin.ext eA)) (congrArg row (Fin.ext eB))

/-! ## The equation of the arrays -/

/-- The kernel's result, at the argument's shape, from the two arguments: at every pixel the reference's. -/
theorem warped_eq (R : S4x64x256x512.Idx → EReal) (D : S4x1x256x512.Idx → EReal) :
    shapeCast S4x64x256x512 (warped (F := Ideal) (shapeCast S4x64x131072 R shapeCasts_S4x64x256x512_S4x64x131072)
        (shapeCast S4x131072 D shapeCasts_S4x1x256x512_S4x131072)) shapeCasts_S4x64x131072_S4x64x256x512
      = Ref.refOut (F := Ideal) R D := by
  funext x
  have h0 : (x 0).val < 4 := (x 0).isLt
  have h1 : (x 1).val < 64 := (x 1).isLt
  have h2 : (x 2).val < 256 := (x 2).isLt
  have h3 : (x 3).val < 512 := (x 3).isLt
  -- the pixel's place where each picture's rows lie end to end
  let y : S4x64x131072.Idx := ix3 (x 0) (x 1) ⟨512 * (x 2).val + (x 3).val, by omega⟩
  have hy : Shape.reshapeEquiv shapeCasts_S4x64x131072_S4x64x256x512 x = y :=
    Shape.reshapeEquiv_eq_of_rowMajor _ (by
      rw [Shape.rowMajor_val_three, Shape.rowMajor_val_four]
      show ((x 0).val * 64 + (x 1).val) * 131072 + (512 * (x 2).val + (x 3).val) = (((x 0).val * 64 + (x 1).val) * 256 + (x 2).val) * 512 + (x 3).val
      ring)
  have hrow : rowIx y = 256 * (x 0).val + (x 2).val := by
    show 256 * (x 0).val + (512 * (x 2).val + (x 3).val) / 512 = _; omega
  have hcol : (y 2).val % 512 = (x 3).val := by show (512 * (x 2).val + (x 3).val) % 512 = _; omega
  -- the row's displacements and its picture
  have hD : ∀ j : S512.Idx, dispRow (F := Ideal) (shapeCast S4x131072 D shapeCasts_S4x1x256x512_S4x131072) (rowIx y) (rowIx_lt y) j
      = D (ix4 (x 0) 0 (x 2) (j 0)) := fun j => by
    have hj : (j 0).val < 512 := (j 0).isLt
    refine congrArg D (Shape.reshapeEquiv_eq_of_rowMajor _ ?_)
    rw [Shape.rowMajor_val_two, Shape.rowMajor_val_four]
    show (((x 0).val * 1 + 0) * 256 + (x 2).val) * 512 + (j 0).val = rowIx y / 256 * 131072 + (512 * (rowIx y % 256) + (j 0).val)
    rw [hrow]; omega
  have hR : ∀ j : S64x512.Idx, slabRow (F := Ideal) (shapeCast S4x64x131072 R shapeCasts_S4x64x256x512_S4x64x131072) (rowIx y) (rowIx_lt y) j
      = R (ix4 (x 0) (j 0) (x 2) (j 1)) := fun j => by
    have hj0 : (j 0).val < 64 := (j 0).isLt
    have hj : (j 1).val < 512 := (j 1).isLt
    refine congrArg R (Shape.reshapeEquiv_eq_of_rowMajor _ ?_)
    rw [Shape.rowMajor_val_three, Shape.rowMajor_val_four]
    show (((x 0).val * 64 + (j 0).val) * 256 + (x 2).val) * 512 + (j 1).val = (rowIx y / 256 * 64 + (j 0).val) * 131072 + (512 * (rowIx y % 256) + (j 1).val)
    rw [hrow]; omega
  have hc : (⟨(y 2).val % 512, Nat.mod_lt _ (by decide)⟩ : Fin 512) = x 3 := Fin.ext hcol
  show warped (F := Ideal) _ _ (Shape.reshapeEquiv shapeCasts_S4x64x131072_S4x64x256x512 x) = _
  rw [hy, Ref.refOut_apply]
  unfold warped slabOut
  rw [hc]
  simp only [hD, hR]
  exact pixel_eq (BitVec.ofNat 32 (x 3).val) (D (ix4 (x 0) 0 (x 2) (x 3))) fun k => R (ix4 (x 0) (x 1) (x 2) k)

end Cert.Proof.Warp

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Run
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem

/-- The kernel as compiled, over machine words: it ends without fault, its arguments unchanged, every counter at zero. -/
theorem frame_kernel : Cert.quiescent_Kernel := fun m ρ _ =>
  (θ_run Cert.KernelIdeal.defs _ _).mono (fun _ h => ⟨fun c => (h.1 c).2, h.2⟩) (Warp.run_main (F := Bits) m ρ)

/-- The kernel over the extended reals: the same. -/
theorem frame_kernelIdeal : Cert.quiescent_KernelIdeal := fun m ρ _ =>
  (θ_run Cert.KernelIdeal.defs _ _).mono (fun _ h => ⟨fun c => (h.1 c).2, h.2⟩) (Warp.run_main (F := Ideal) m ρ)

/-- The reference over the extended reals: the same. It has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- From equal arguments the kernel and the reference end with the same result. -/
theorem algebraic : Cert.algebraic_KernelIdeal_ReferenceIdeal := fun m ρ m' ρ' _ hm =>
  ⟨Warp.outVal (F := Ideal) m,
    (θ_run Cert.KernelIdeal.defs _ _).mono (fun _ h => h.1) (Warp.run_main (F := Ideal) m ρ),
    (θ_run Cert.ReferenceIdeal.defs _ _).mono
      (fun _ h c => ⟨(h c).1.trans ((Warp.Ref.res_eq m' c).trans (by
        rw [(hm c).1, (hm c).2]
        exact (Warp.warped_eq _ _).symm)), (h c).2⟩)
      (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
